-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 4096]⟩ ⟨2, ![512, 16384]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .f32) (main_arg1 : FVec F S512x4096 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_ReferenceIdeal.lean ====
abbrev S256x512 : Shape := ⟨2, ![256, 512]⟩
abbrev S512x16384 : Shape := ⟨2, ![512, 16384]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x16384 : S_.BroadcastsInDim S512x16384 (![] : Fin 0 → Fin S512x16384.rank)
  reducesTo_S512x16384_S_d0_1 : S512x16384.ReducesTo [0, 1] S_

variable [Facts]

def fn {F : FTy → Type} [FloatOps F] (main_arg0 : FVec F S256x512 .f32) (main_arg1 : FVec F S512x16384 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x16384 .f32 := Host.absf main_arg1
  let main_cst_0 : FVec F S_ .f32 := constant S_ .f32 0x7F800000#32
  let main_v5 : FVec F S512x16384 .f32 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S256x16384 : Shape := ⟨2, ![256, 16384]⟩
abbrev S6 : Shape := ⟨1, ![6]⟩
abbrev S_ : Shape := ⟨0, ![]⟩
abbrev S512x2048 : Shape := ⟨2, ![512, 2048]⟩
abbrev S256x2048 : Shape := ⟨2, ![256, 2048]⟩
abbrev S1 : Shape := ⟨1, ![1]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 4
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x16384, .f32⟩
  | .local _ .vmem, ⟨0, _⟩ => ⟨S256x512, .f32⟩
  | .local _ .vmem, ⟨1, _⟩ => ⟨S512x4096, .f32⟩
  | .local _ .vmem, ⟨2, _⟩ => ⟨S256x16384, .f32⟩
  | .local _ .vmem, ⟨3, _⟩ => ⟨S256x16384, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_off1 (d0 : Dev nD) : Fin 2 → Nat :=
  let c0_29 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32 : BitVec 32 := 4096#32
  let v49 : BitVec 32 := Scalar.muli v2 c4096_i32
  let v50 : Index := Scalar.indexCast v49
  ![0, v50.toNat]
def k0_off2 (d0 : Dev nD) : Fin 2 → Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32_30 : BitVec 32 := 4096#32
  let v54 : BitVec 32 := Scalar.muli v2 c4096_i32_30
  ![0, v54.toNat]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_34 : BitVec 32 := 1#32
  let v56 : BitVec 32 := Scalar.muli v24 c1_i32_34
  let v57 : BitVec 32 := Scalar.addi c0_i32_35 v56
  v57.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_40 : BitVec 32 := 1#32
  let v64 : BitVec 32 := Scalar.muli v13 c1_i32_40
  let v65 : BitVec 32 := Scalar.addi c0_i32_41 v64
  v65.toNat
def k0_off3 (d0 : Dev nD) : Fin 2 → Nat :=
  let c0_47 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32_46 : BitVec 32 := 4096#32
  let v77 : BitVec 32 := Scalar.muli v2 c4096_i32_46
  let c2048_i32 : BitVec 32 := 2048#32
  let v78 : BitVec 32 := Scalar.addi v77 c2048_i32
  let v79 : Index := Scalar.indexCast v78
  ![0, v79.toNat]
def k0_off4 (d0 : Dev nD) : Fin 2 → Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32_48 : BitVec 32 := 4096#32
  let v83 : BitVec 32 := Scalar.muli v2 c4096_i32_48
  let c2048_i32_49 : BitVec 32 := 2048#32
  let v84 : BitVec 32 := Scalar.addi v83 c2048_i32_49
  ![0, v84.toNat]
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_54 : BitVec 32 := 1#32
  let v87 : BitVec 32 := Scalar.muli v24 c1_i32_54
  let v88 : BitVec 32 := Scalar.addi c0_i32_55 v87
  v88.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v95 : BitVec 32 := Scalar.muli v13 c1_i32_59
  let v96 : BitVec 32 := Scalar.addi c0_i32_60 v95
  v96.toNat
def k0_off5 (d0 : Dev nD) : Fin 2 → Nat :=
  let c0_64 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4096_i32_63 : BitVec 32 := 4096#32
  let v103 : BitVec 32 := Scalar.muli v2 c4096_i32_63
  let v104 : Index := Scalar.indexCast v103
  ![0, v104.toNat]
def k0_off6 (d0 : Dev nD) : Fin 2 → Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c4096_i32_68 : BitVec 32 := 4096#32
  let v116 : BitVec 32 := Scalar.muli v13 c4096_i32_68
  ![0, v116.toNat]
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_78 : BitVec 32 := 1#32
  let v124 : BitVec 32 := Scalar.muli v24 c1_i32_78
  let v125 : BitVec 32 := Scalar.addi c0_i32_79 v124
  v125.toNat
def k0_off7 (d0 : Dev nD) (c1_i32_6 : BitVec 32) : Fin 2 → Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c4096_i32_82 : BitVec 32 := 4096#32
  let v132 : BitVec 32 := Scalar.muli v24 c4096_i32_82
  let c2048_i32_83 : BitVec 32 := 2048#32
  let v133 : BitVec 32 := Scalar.addi v132 c2048_i32_83
  ![0, v133.toNat]
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_93 : BitVec 32 := 1#32
  let v142 : BitVec 32 := Scalar.muli v13 c1_i32_93
  let v143 : BitVec 32 := Scalar.addi c0_i32_94 v142
  v143.toNat
def k0_off8 (d0 : Dev nD) : Fin 2 → Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c4096_i32_97 : BitVec 32 := 4096#32
  let v150 : BitVec 32 := Scalar.muli v13 c4096_i32_97
  let c2048_i32_98 : BitVec 32 := 2048#32
  let v151 : BitVec 32 := Scalar.addi v150 c2048_i32_98
  ![0, v151.toNat]
def k0_off9 (d0 : Dev nD) : Fin 2 → Nat :=
  let c0_106 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c4096_i32_105 : BitVec 32 := 4096#32
  let v158 : BitVec 32 := Scalar.muli v13 c4096_i32_105
  let v159 : Index := Scalar.indexCast v158
  ![0, v159.toNat]
def k0_off10 (d0 : Dev nD) (c1_i32_6 : BitVec 32) : Fin 2 → Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c4096_i32_110 : BitVec 32 := 4096#32
  let v171 : BitVec 32 := Scalar.muli v24 c4096_i32_110
  ![0, v171.toNat]
def k0_off11 (d0 : Dev nD) (c1_i32_6 : BitVec 32) : Fin 2 → Nat :=
  let c0_118 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c4096_i32_117 : BitVec 32 := 4096#32
  let v178 : BitVec 32 := Scalar.muli v24 c4096_i32_117
  let v179 : Index := Scalar.indexCast v178
  ![0, v179.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256x16384 : Shape := ⟨2, ![256, 16384]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x16384, .f32⟩
  | .hbm, ⟨2, _⟩ => ⟨S256x16384, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x16384, .f32⟩
  | .hbm, ⟨7, _⟩ => ⟨S256x16384, .f32⟩
  | .hbm, ⟨8, _⟩ => ⟨S256x16384, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x16384, .f32⟩
  | .hbm, ⟨13, _⟩ => ⟨S256x16384, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.KernelIdeal.Ring.lean ====
/-
# The ring of devices, and where each access of the kernel falls

The four devices form a ring: `nxt`, `prv` and `opp` are the device one step on, one step back and two steps away.
The theorems rewrite every device number and every column offset the kernel computes into these.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdealProof

open Cert.KernelIdeal Cert.KernelIdeal.Gen
open Idealize.ShloMosaic
open Idealize.ShloMosaic.TcCoe

/-! ## Neighbours -/

set_option backward.proofsInPublic true in
/-- The next device round the ring. -/
def nxt (c : Dev nD) : Dev nD := ⟨(c.val + 1) % 4, Nat.mod_lt _ (by decide)⟩
set_option backward.proofsInPublic true in
/-- The device before. -/
def prv (c : Dev nD) : Dev nD := ⟨(c.val + 3) % 4, Nat.mod_lt _ (by decide)⟩
set_option backward.proofsInPublic true in
/-- The device across the ring. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = opp c := by revert c; decide
theorem nxt_nxt (c : Dev nD) : nxt (nxt c) = opp c := by revert c; decide

/-- One step on, as a permutation of the devices. -/
def onward : Dev nD ≃ Dev nD := ⟨nxt, prv, prv_nxt, nxt_prv⟩
/-- One step back. -/
def backward : Dev nD ≃ Dev nD := ⟨prv, nxt, nxt_prv, prv_nxt⟩

/-- The eight device numbers the kernel computes. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel

/-! ## Offsets

The columns of the whole 256×16384 matrix fall in four blocks of 4096, one per device, each of two halves of 2048. -/

/-- Where half `h` of block `b` begins. -/
def hoff (b : Dev nD) (h : Fin 2) : Fin 2 → Nat := ![0, 4096 * b.val + 2048 * h.val]
/-- Where block `b` begins. -/
def woff (b : Dev nD) : Fin 2 → Nat := ![0, 4096 * b.val]

theorem hoff_inb (b : Dev nD) (h : Fin 2) : ∀ a, hoff b h a + S256x2048.size a ≤ S256x16384.size a := by
  revert b h; decide +kernel
theorem woff_inb (b : Dev nD) : ∀ a, woff b a + S256x4096.size a ≤ S256x16384.size a := by
  revert b; decide +kernel

theorem off1_eq (c : Dev nD) : k0_off1 c = hoff c 0 := by revert c; decide +kernel
theorem off2_eq (c : Dev nD) : k0_off2 c = hoff c 0 := by revert c; decide +kernel
theorem off3_eq (c : Dev nD) : k0_off3 c = hoff c 1 := by revert c; decide +kernel
theorem off4_eq (c : Dev nD) : k0_off4 c = hoff c 1 := by revert c; decide +kernel
theorem off5_eq (c : Dev nD) : k0_off5 c = woff c := by revert c; decide +kernel
theorem off6_eq (c : Dev nD) : k0_off6 c = hoff (prv c) 0 := by revert c; decide +kernel
theorem off7a_eq (c : Dev nD) : k0_off7 c 1#32 = hoff (nxt c) 1 := by revert c; decide +kernel
theorem off7b_eq (c : Dev nD) : k0_off7 c 2#32 = hoff (opp c) 1 := by revert c; decide +kernel
theorem off8_eq (c : Dev nD) : k0_off8 c = hoff (prv c) 1 := by revert c; decide +kernel
theorem off9_eq (c : Dev nD) : k0_off9 c = woff (prv c) := by revert c; decide +kernel
theorem off10a_eq (c : Dev nD) : k0_off10 c 1#32 = hoff (nxt c) 0 := by revert c; decide +kernel
theorem off10b_eq (c : Dev nD) : k0_off10 c 2#32 = hoff (opp c) 0 := by revert c; decide +kernel
theorem off11a_eq (c : Dev nD) : k0_off11 c 1#32 = woff (nxt c) := by revert c; decide +kernel
theorem off11b_eq (c : Dev nD) : k0_off11 c 2#32 = woff (opp c) := by revert c; decide +kernel

/-! ## The six transfers

Transfer `i` of device `c` goes to `tgt i c`. Transfers 0, 1, 4, 5 carry the device's own two halves to both
neighbours; 2 and 3 forward a half received from one neighbour to the other. The twelve transfer semaphores are
numbered `k`: `k < 6` counts the sending of transfer `k`, `k = 6 + i` the arrival of transfer `i`. -/

/-- The device transfer `i` of device `c` goes to. -/
def tgt (i : Fin 6) (c : Dev nD) : Dev nD := if i.val % 2 = 0 then nxt c else prv c
/-- The device transfer `i` arriving at device `c` came from. -/
def org (i : Fin 6) (c : Dev nD) : Dev nD := if i.val % 2 = 0 then prv c else nxt c

theorem org_tgt (i : Fin 6) (c : Dev nD) : org i (tgt i c) = c := by revert i c; decide
theorem tgt_org (i : Fin 6) (c : Dev nD) : tgt i (org i c) = c := by revert i c; decide

/-- The number of transfer `i`'s sending semaphore. -/
def sk (i : Fin 6) : Fin 12 := ⟨i.val, by omega⟩
/-- The number of transfer `i`'s arrival semaphore. -/
def rk (i : Fin 6) : Fin 12 := ⟨i.val + 6, by omega⟩

/-- The block of the columns that moves with semaphore `k` of device `c`. -/
def xblk : Fin 12 → Dev nD → Dev nD
  | 0, c => c | 1, c => c | 2, c => prv c | 3, c => nxt c | 4, c => c | 5, c => c
  | 6, c => prv c | 7, c => nxt c | 8, c => opp c | 9, c => opp c | 10, c => prv c | 11, c => nxt c
/-- The half of that block. -/
def xhalf : Fin 12 → Fin 2
  | 0 => 0 | 1 => 0 | 2 => 0 | 3 => 1 | 4 => 1 | 5 => 1
  | 6 => 0 | 7 => 0 | 8 => 0 | 9 => 1 | 10 => 1 | 11 => 1

theorem xblk_rk (i : Fin 6) (c : Dev nD) : xblk (rk i) (tgt i c) = xblk (sk i) c := by revert i c; decide
theorem xhalf_rk (i : Fin 6) : xhalf (rk i) = xhalf (sk i) := by revert i; decide

end Cert.KernelIdealProof

end
-- ==== Proof.KernelIdeal.Pieces.lean ====
/-
# The pieces of the two whole-width buffers

The communication buffer (256×16384, one per device) is owned in eight half-blocks, the result buffer in four blocks.
This module names those pieces, states which columns each covers, how they make up the whole, and what the
communication buffer holds once a half-block has been computed or has arrived.
-/
module

public import proofs.«01_k».proof.Proof.KernelIdeal.Ring

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user-level ghost state: the rounds of the protocol's cells. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs and rectangles -/

/-- The communication buffer, and the staging buffers of `x`, of the device's block of `W` and of the result. -/
abbrev cM : Memref sig .tc .vmem S256x16384 .bf16 := Memref.whole cc0_scratch0
abbrev xM : Memref sig .tc .vmem S256x512 .f32 := Memref.whole cc0_stg0_0
abbrev wM : Memref sig .tc .vmem S512x4096 .f32 := Memref.whole cc0_stg1_0
abbrev oM : Memref sig .tc .vmem S256x16384 .f32 := Memref.whole cc0_stg2_0

abbrev hR (b : Dev nD) (h : Fin 2) : Rect S256x16384 := Rect.unit (s := S256x16384) (hoff b h) S256x2048.size (hoff_inb b h)
abbrev wR (b : Dev nD) : Rect S256x16384 := Rect.unit (s := S256x16384) (woff b) S256x4096.size (woff_inb b)
/-- Half `h` of block `b` of the communication buffer. -/
abbrev hM (b : Dev nD) (h : Fin 2) : Memref sig .tc .vmem S256x2048 .bf16 := cM.slice (hR b h) (fun _ => rfl)

/-- What one half-block adds to a transfer semaphore. -/
abbrev N : ℕ := (hM 0 0).view.dmaCredit
theorem N_pos : 0 < N := View.dmaCredit_pos _ (by decide)
theorem hM_credit (b : Dev nD) (h : Fin 2) : (hM b h).view.dmaCredit = N := rfl

/-- The elements of a half-block, of a block. -/
abbrev hS (b : Dev nD) (h : Fin 2) : Finset S256x16384.Idx := (hR b h).set
abbrev wS (b : Dev nD) : Finset S256x16384.Idx := (wR b).set

theorem hM_set (b : Dev nD) (h : Fin 2) : (hM b h).view.set = hS b h := View.set_slice_whole cc0_scratch0 (hR b h)

theorem mem_hS (b : Dev nD) (h : Fin 2) (i : S256x16384.Idx) :
    i ∈ hS b h ↔ 4096 * b.val + 2048 * h.val ≤ (i 1).val ∧ (i 1).val < 4096 * b.val + 2048 * h.val + 2048 := by
  rw [Rect.mem_set_unit]
  constructor
  · intro H; exact H 1
  · intro H a
    fin_cases a
    · exact ⟨Nat.zero_le _, by have := (i 0).isLt; simpa [hoff] using this⟩
    · exact H

theorem mem_wS (b : Dev nD) (i : S256x16384.Idx) :
    i ∈ wS b ↔ 4096 * b.val ≤ (i 1).val ∧ (i 1).val < 4096 * b.val + 4096 := by
  rw [Rect.mem_set_unit]
  constructor
  · intro H; exact H 1
  · intro H a
    fin_cases a
    · exact ⟨Nat.zero_le _, by have := (i 0).isLt; simpa [woff] using this⟩
    · exact H

theorem hS_disjoint (b b' : Dev nD) (h h' : Fin 2) (hne : b ≠ b' ∨ h ≠ h') : Disjoint (hS b h) (hS b' h') := by
  rw [Finset.disjoint_left]
  intro i hi hi'
  rw [mem_hS] at hi hi'
  have h1 := h.isLt; have h2 := h'.isLt
  rcases hne with hne | hne
  · exact hne (Fin.ext (by omega))
  · exact hne (Fin.ext (by omega))

theorem wS_eq (b : Dev nD) : wS b = hS b 0 ∪ hS b 1 := by
  ext i
  rw [Finset.mem_union, mem_wS, mem_hS, mem_hS]
  show _ ↔ (4096 * b.val + 2048 * 0 ≤ _ ∧ _ < 4096 * b.val + 2048 * 0 + 2048) ∨ (4096 * b.val + 2048 * 1 ≤ _ ∧ _ < 4096 * b.val + 2048 * 1 + 2048)
  omega

theorem wS_disjoint (b b' : Dev nD) (hne : b ≠ b') : Disjoint (wS b) (wS b') := by
  rw [Finset.disjoint_left]
  intro i hi hi'
  rw [mem_wS] at hi hi'
  exact hne (Fin.ext (by omega))

/-- The four blocks, seen from device `c`, are everything. -/
theorem wS_cover (c : Dev nD) : wS c ∪ (wS (prv c) ∪ (wS (nxt c) ∪ wS (opp c))) = Finset.univ := by
  ext i
  have hi : (i 1).val < 16384 := (i 1).isLt
  simp only [Finset.mem_union, mem_wS, Finset.mem_univ, iff_true, prv, nxt, opp]
  have hc := c.isLt
  change c.val < 4 at hc
  omega

theorem ne_prv (c : Dev nD) : c ≠ prv c := by revert c; decide
theorem ne_nxt (c : Dev nD) : c ≠ nxt c := by revert c; decide
theorem ne_opp (c : Dev nD) : c ≠ opp c := by revert c; decide
theorem prv_ne_nxt (c : Dev nD) : prv c ≠ nxt c := by revert c; decide
theorem prv_ne_opp (c : Dev nD) : prv c ≠ opp c := by revert c; decide
theorem nxt_ne_opp (c : Dev nD) : nxt c ≠ opp c := by revert c; decide

/-! ## Owned pieces -/

/-- Device `c` owns half `h` of block `b` of its communication buffer, at share `q`, with contents `f`. -/
def cpt (c b : Dev nD) (h : Fin 2) (q : PosShare TreeShare) (f : cc0_scratch0.ty.Contents (Elt F)) : sProp 𝕄 :=
  ((c : Thread nD τ).loc cc0_scratch0) ↦[hS b h]{q} f

/-- Device `c` owns the whole of block `b` of its communication buffer. -/
def cwide (c b : Dev nD) (q : PosShare TreeShare) (f : cc0_scratch0.ty.Contents (Elt F)) : sProp 𝕄 :=
  ((c : Thread nD τ).loc cc0_scratch0) ↦[wS b]{q} f

omit [FloatOps F] in
theorem cwide_split (c b : Dev nD) (q : PosShare TreeShare) (f : cc0_scratch0.ty.Contents (Elt F)) :
    (cwide c b q f : sProp 𝕄) ⊣⊢ iprop(cpt c b 0 q f ∗ cpt c b 1 q f) := by
  unfold cwide cpt; rw [wS_eq]
  exact pointsTo_union (hS_disjoint b b 0 1 (.inr (by decide)))

omit [FloatOps F] in
theorem cpt_share (c b : Dev nD) (h : Fin 2) (q : PosShare TreeShare) (f : cc0_scratch0.ty.Contents (Elt F)) :
    (cpt c b h q f : sProp 𝕄) ⊣⊢ iprop(cpt c b h q.left f ∗ cpt c b h q.right f) := by
  unfold cpt; exact pointsTo_share (PosShare.mem_left_op_right q)

omit [FloatOps F] in
theorem cpt_congr (c b : Dev nD) (h : Fin 2) (q : PosShare TreeShare) {f g : cc0_scratch0.ty.Contents (Elt F)} (H : ∀ i ∈ hS b h, f i = g i) :
    (cpt c b h q f : sProp 𝕄) = cpt c b h q g := pointsTo_congr H

omit [FloatOps F] in
/-- The whole buffer, in its four blocks seen from device `c`. -/
theorem comm_blocks (c : Dev nD) (f : cc0_scratch0.ty.Contents (Elt F)) :
    (((c : Thread nD τ).loc cc0_scratch0) ↦{fullShare} f : sProp 𝕄)
      ⊣⊢ iprop(cwide c c fullShare f ∗ cwide c (prv c) fullShare f ∗ cwide c (nxt c) fullShare f ∗ cwide c (opp c) fullShare f) := by
  have h1 : Disjoint (wS c) (wS (prv c) ∪ (wS (nxt c) ∪ wS (opp c))) := by
    rw [Finset.disjoint_union_right, Finset.disjoint_union_right]
    exact ⟨wS_disjoint _ _ (ne_prv c), wS_disjoint _ _ (ne_nxt c), wS_disjoint _ _ (ne_opp c)⟩
  have h2 : Disjoint (wS (prv c)) (wS (nxt c) ∪ wS (opp c)) := by
    rw [Finset.disjoint_union_right]
    exact ⟨wS_disjoint _ _ (prv_ne_nxt c), wS_disjoint _ _ (prv_ne_opp c)⟩
  have h3 : Disjoint (wS (nxt c)) (wS (opp c)) := wS_disjoint _ _ (nxt_ne_opp c)
  unfold cwide
  show (((c : Thread nD τ).loc cc0_scratch0) ↦[Finset.univ]{fullShare} f : sProp 𝕄) ⊣⊢ _
  rw [show (Finset.univ : Finset S256x16384.Idx) = _ from (wS_cover c).symm]
  refine (pointsTo_union h1).trans ⟨sep_mono_right ?_, sep_mono_right ?_⟩
  · exact (pointsTo_union h2).1.trans (sep_mono_right (pointsTo_union h3).1)
  · exact (sep_mono_right (pointsTo_union h3).2).trans (pointsTo_union h2).2

/-- Device `c` owns block `b` of its result's staging buffer, which reads `w`. -/
def owide (c b : Dev nD) (w : S256x4096.Idx → Elt F .f32) : sProp 𝕄 :=
  iprop(∃ f : cc0_stg2_0.ty.Contents (Elt F), ⌜(oM.access (wR b) : View sig .tc _ _ _).read (Elt F) f = w⌝
    ∗ (((c : Thread nD τ).loc cc0_stg2_0) ↦[wS b]{fullShare} f))

omit [FloatOps F] in
theorem out_blocks (c : Dev nD) (f : cc0_stg2_0.ty.Contents (Elt F)) :
    (((c : Thread nD τ).loc cc0_stg2_0) ↦{fullShare} f : sProp 𝕄)
      ⊣⊢ iprop((((c : Thread nD τ).loc cc0_stg2_0) ↦[wS c]{fullShare} f) ∗ (((c : Thread nD τ).loc cc0_stg2_0) ↦[wS (prv c)]{fullShare} f)
        ∗ (((c : Thread nD τ).loc cc0_stg2_0) ↦[wS (nxt c)]{fullShare} f) ∗ (((c : Thread nD τ).loc cc0_stg2_0) ↦[wS (opp c)]{fullShare} f)) := by
  have h1 : Disjoint (wS c) (wS (prv c) ∪ (wS (nxt c) ∪ wS (opp c))) := by
    rw [Finset.disjoint_union_right, Finset.disjoint_union_right]
    exact ⟨wS_disjoint _ _ (ne_prv c), wS_disjoint _ _ (ne_nxt c), wS_disjoint _ _ (ne_opp c)⟩
  have h2 : Disjoint (wS (prv c)) (wS (nxt c) ∪ wS (opp c)) := by
    rw [Finset.disjoint_union_right]
    exact ⟨wS_disjoint _ _ (prv_ne_nxt c), wS_disjoint _ _ (prv_ne_opp c)⟩
  have h3 : Disjoint (wS (nxt c)) (wS (opp c)) := wS_disjoint _ _ (nxt_ne_opp c)
  show (((c : Thread nD τ).loc cc0_stg2_0) ↦[Finset.univ]{fullShare} f : sProp 𝕄) ⊣⊢ _
  rw [show (Finset.univ : Finset S256x16384.Idx) = _ from (wS_cover c).symm]
  refine (pointsTo_union h1).trans ⟨sep_mono_right ?_, sep_mono_right ?_⟩
  · exact (pointsTo_union h2).1.trans (sep_mono_right (pointsTo_union h3).1)
  · exact (sep_mono_right (pointsTo_union h3).2).trans (pointsTo_union h2).2

/-! ## A whole-width buffer from its blocks -/

/-- The block, the half, and the column within half or block, of a column of the whole width. -/
def blkOf (i : S256x16384.Idx) : Dev nD := ⟨(i 1).val / 4096, by have : (i 1).val < 16384 := (i 1).isLt; change _ < 4; omega⟩
def halfOf (i : S256x16384.Idx) : Fin 2 := ⟨(i 1).val % 4096 / 2048, by omega⟩
def inHalf (i : S256x16384.Idx) : S256x2048.Idx := fun
  | ⟨0, _⟩ => ⟨(i 0).val, (i 0).isLt⟩
  | ⟨1, _⟩ => ⟨(i 1).val % 2048, Nat.mod_lt _ (by decide)⟩
def inBlk (i : S256x16384.Idx) : S256x4096.Idx := fun
  | ⟨0, _⟩ => ⟨(i 0).val, (i 0).isLt⟩
  | ⟨1, _⟩ => ⟨(i 1).val % 4096, Nat.mod_lt _ (by decide)⟩

theorem blkOf_of_hS {b : Dev nD} {h : Fin 2} {i : S256x16384.Idx} (hi : i ∈ hS b h) : blkOf i = b ∧ halfOf i = h := by
  rw [mem_hS] at hi
  have h1 := h.isLt
  exact ⟨Fin.ext (by simp only [blkOf]; omega), Fin.ext (by simp only [halfOf]; omega)⟩
theorem blkOf_of_wS {b : Dev nD} {i : S256x16384.Idx} (hi : i ∈ wS b) : blkOf i = b := by
  rw [mem_wS] at hi
  exact Fin.ext (by simp only [blkOf]; omega)

theorem emb_inHalf {b : Dev nD} {h : Fin 2} {i : S256x16384.Idx} (hi : i ∈ hS b h) : (hR b h).emb (inHalf i) = i := by
  have hi' := (mem_hS b h i).1 hi
  have h1 := h.isLt
  funext a
  fin_cases a
  · exact Fin.ext (by show 0 + 1 * (i 0).val = (i 0).val; omega)
  · exact Fin.ext (by show 4096 * b.val + 2048 * h.val + 1 * ((i 1).val % 2048) = (i 1).val; omega)
theorem emb_inBlk {b : Dev nD} {i : S256x16384.Idx} (hi : i ∈ wS b) : (wR b).emb (inBlk i) = i := by
  have hi' := (mem_wS b i).1 hi
  funext a
  fin_cases a
  · exact Fin.ext (by show 0 + 1 * (i 0).val = (i 0).val; omega)
  · exact Fin.ext (by show 4096 * b.val + 1 * ((i 1).val % 4096) = (i 1).val; omega)

/-- The communication buffer with every half-block `b`, `h` holding `g b h`. -/
def fromHalves (g : Dev nD → Fin 2 → S256x2048.Idx → Elt F .bf16) : cc0_scratch0.ty.Contents (Elt F) :=
  fun i => g (blkOf i) (halfOf i) (inHalf i)
/-- The result buffer with every block `b` holding `g b`. -/
def fromBlocks (g : Dev nD → S256x4096.Idx → Elt F .f32) : cc0_stg2_0.ty.Contents (Elt F) :=
  fun i => g (blkOf i) (inBlk i)

omit [FloatOps F] in
/-- Storing `g b h` in its half-block makes that half-block what `fromHalves g` holds there. -/
theorem store_half (g : Dev nD → Fin 2 → S256x2048.Idx → Elt F .bf16) (b : Dev nD) (h : Fin 2) (f : cc0_scratch0.ty.Contents (Elt F)) :
    ∀ i ∈ hS b h, ((cM.access (hR b h) : View sig .tc _ _ _).write (Elt F) f (g b h) Finset.univ) i = fromHalves g i := by
  intro i hi
  have hb := blkOf_of_hS hi
  have e := View.write_emb_of_mem (v := (cM.access (hR b h) : View sig .tc _ _ _)) (Val := Elt F) f (g b h) (M := Finset.univ) (x := inHalf i) (Finset.mem_univ _)
  have he : (cM.access (hR b h) : View sig .tc _ _ _).emb (inHalf i) = i := emb_inHalf hi
  rw [he] at e
  rw [e]
  unfold fromHalves
  rw [hb.1, hb.2]
  rfl

omit [FloatOps F] in
/-- A half-block copied from a buffer `g` agrees with `g`. -/
theorem copy_half (g f : cc0_scratch0.ty.Contents (Elt F)) (b : Dev nD) (h : Fin 2) :
    ∀ i ∈ hS b h, ((hM b h).view.write (Elt F) f ((hM b h).view.read (Elt F) g) Finset.univ) i = g i := by
  intro i hi
  rw [View.write_read_eq_piecewise]
  exact Finset.piecewise_eq_of_mem _ _ _ (by rw [View.setOn_univ, hM_set]; exact hi)

omit [FloatOps F] in
/-- Contents whose block `b` reads `g b` agree there with `fromBlocks g`. -/
theorem read_block (g : Dev nD → S256x4096.Idx → Elt F .f32) (b : Dev nD) (f : cc0_stg2_0.ty.Contents (Elt F))
    (hf : (oM.access (wR b) : View sig .tc _ _ _).read (Elt F) f = g b) : ∀ i ∈ wS b, f i = fromBlocks g i := by
  intro i hi
  unfold fromBlocks
  rw [blkOf_of_wS hi, ← hf]
  show f i = f ((wR b).emb (inBlk i))
  rw [emb_inBlk hi]

omit [FloatOps F] in
/-- One block of the result reading what `fromBlocks g` holds there is that block of `fromBlocks g`. -/
theorem owide_at (c b : Dev nD) (g : Dev nD → S256x4096.Idx → Elt F .f32) :
    (owide c b (g b) : sProp 𝕄) ⊢ (((c : Thread nD τ).loc cc0_stg2_0) ↦[wS b]{fullShare} fromBlocks g) := by
  unfold owide
  iintro ⟨%f, %h, H⟩
  ihave H := (Entails.of_eq (pointsTo_congr (read_block g b f h))) $$ H
  iexact H

omit [FloatOps F] in
/-- The result's four blocks, each reading what `fromBlocks g` holds there, are the whole buffer at `fromBlocks g`. -/
theorem out_join (c : Dev nD) (g : Dev nD → S256x4096.Idx → Elt F .f32) :
    iprop(owide c c (g c) ∗ owide c (prv c) (g (prv c)) ∗ owide c (nxt c) (g (nxt c)) ∗ owide c (opp c) (g (opp c)))
      ⊢ (((c : Thread nD τ).loc cc0_stg2_0) ↦{fullShare} fromBlocks g : sProp 𝕄) :=
  (BI.sep_mono (owide_at c c g) (BI.sep_mono (owide_at c _ g) (BI.sep_mono (owide_at c _ g) (owide_at c _ g)))).trans (out_blocks c (fromBlocks g)).2

omit [FloatOps F] in
/-- The result's staging buffer, whatever it holds, is its four blocks reading something. -/
theorem out_open (c : Dev nD) (f : cc0_stg2_0.ty.Contents (Elt F)) :
    (((c : Thread nD τ).loc cc0_stg2_0) ↦{fullShare} f : sProp 𝕄)
      ⊢ iprop((∃ w, owide c c w) ∗ (∃ w, owide c (prv c) w) ∗ (∃ w, owide c (nxt c) w) ∗ (∃ w, owide c (opp c) w)) := by
  unfold owide
  iintro H
  ihave H := (out_blocks c f).1 $$ H
  icases H with ⟨H0, H1, H2, H3⟩
  isplitl [H0]
  · iexists _, f; isplitr; · (ipureintro; rfl)
    iexact H0
  isplitl [H1]
  · iexists _, f; isplitr; · (ipureintro; rfl)
    iexact H1
  isplitl [H2]
  · iexists _, f; isplitr; · (ipureintro; rfl)
    iexact H2
  iexists _, f; isplitr; · (ipureintro; rfl)
  iexact H3

end Cert.KernelIdealProof

end
-- ==== Proof.KernelIdeal.Contents.lean ====
/-
# What the buffers hold

`logits` is the communication buffer once every half-block is in place, the same on every device; `outAt c` is the
result device `c` writes, block by block.
-/
module

public import proofs.«01_k».proof.Proof.KernelIdeal.Pieces

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Device `c`'s staged `x` and its staged block of `W`. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

abbrev xR : Rect S256x512 := Rect.unit (s := S256x512) ![0, 0] S256x512.size inb_S256x512_S256x512_0_0
abbrev loR : Rect S512x4096 := Rect.unit (s := S512x4096) ![0, 0] S512x2048.size inb_S512x4096_S512x2048_0_0
abbrev hiR : Rect S512x4096 := Rect.unit (s := S512x4096) ![0, 2048] S512x2048.size inb_S512x4096_S512x2048_0_2048

/-- The left and the right half of the device's block of `W`. -/
def wlo (c : Dev nD) : Vec F S512x2048 .f32 := (wM.access loR : View sig .tc _ _ _).read (Elt F) (wstg m c)
def whi (c : Dev nD) : Vec F S512x2048 .f32 := (wM.access hiR : View sig .tc _ _ _).read (Elt F) (wstg m c)

/-- The half-block of the product device `b` computes. -/
def half (b : Dev nD) (h : Fin 2) : S256x2048.Idx → Elt F .bf16 :=
  if h = 0 then k0_pay2 (xstg m b) (wlo m b) else k0_pay3 (k0_pay1 (xstg m b)) (whi m b)

theorem half_zero (b : Dev nD) : half m b 0 = k0_pay2 (xstg m b) (wlo m b) := if_pos rfl
theorem half_one (b : Dev nD) : half m b 1 = k0_pay3 (k0_pay1 (xstg m b)) (whi m b) := if_neg (by decide)

/-- The whole product, as the communication buffer ends up holding it. -/
def logits : cc0_scratch0.ty.Contents (Elt F) := fromHalves (half m)

/-- Its block `b`, as read back. -/
def lblk (b : Dev nD) : Vec F S256x4096 .bf16 := (cM.access (wR b) : View sig .tc _ _ _).read (Elt F) (logits m)

/-- The row maxima of block `b`, the exponentials relative to them and the row sums of those. -/
def bmax (b : Dev nD) : FVec F S256x1 .f32 := k0_pay5 (lblk m b)
def bexp (b : Dev nD) : FVec F S256x4096 .f32 := k0_pay6 (lblk m b)
def bsum (b : Dev nD) : FVec F S256x1 .f32 := k0_pay7 (lblk m b)

/-- On device `c`: the row maxima of everything, block `b`'s factor, and the reciprocal of the combined row sums. -/
def gmax (c : Dev nD) : FVec F S256x1 .f32 := k0_pay19 (bmax m c) (bmax m (prv c)) (bmax m (nxt c)) (lblk m (opp c))
def fac (c b : Dev nD) : FVec F S256x1 .f32 := exp (subf (bmax m b) (gmax m c))
def rec (c : Dev nD) : FVec F S256x1 .f32 :=
  k0_pay24 (bmax m c) (bsum m c) (bmax m (prv c)) (bsum m (prv c)) (bmax m (nxt c)) (bsum m (nxt c)) (lblk m (opp c))

/-- Block `b` of the result on device `c`. -/
def oblk (c b : Dev nD) : S256x4096.Idx → Elt F .f32 := k0_pay25 (fac m c b) (rec m c) (bexp m b)

/-- The result on device `c`. -/
def outAt (c : Dev nD) : cc0_stg2_0.ty.Contents (Elt F) := fromBlocks (oblk m c)

/-! The computations printed for the four blocks are one computation. -/

theorem pay9_eq (v : Vec F S256x4096 .bf16) : k0_pay9 v = k0_pay5 v := rfl
theorem pay10_eq (v : Vec F S256x4096 .bf16) : k0_pay10 (k0_pay8 v) (k0_pay9 v) = k0_pay6 v := rfl
theorem pay11_eq (v : Vec F S256x4096 .bf16) : k0_pay11 (k0_pay8 v) (k0_pay9 v) = k0_pay7 v := rfl
theorem pay13_eq (v : Vec F S256x4096 .bf16) : k0_pay13 v = k0_pay5 v := rfl
theorem pay14_eq (v : Vec F S256x4096 .bf16) : k0_pay14 v = k0_pay6 v := rfl
theorem pay15_eq (v : Vec F S256x4096 .bf16) : k0_pay15 v = k0_pay7 v := rfl
theorem pay17_eq (v : Vec F S256x4096 .bf16) : k0_pay17 v = k0_pay5 v := rfl
theorem pay18_eq (v : Vec F S256x4096 .bf16) : k0_pay18 v = k0_pay6 v := rfl

theorem fac_own (c : Dev nD) : k0_pay20 (bmax m c) (bmax m (prv c)) (bmax m (nxt c)) (lblk m (opp c)) = fac m c c := rfl
theorem fac_prv (c : Dev nD) : k0_pay21 (bmax m c) (bmax m (prv c)) (bmax m (nxt c)) (lblk m (opp c)) = fac m c (prv c) := rfl
theorem fac_nxt (c : Dev nD) : k0_pay22 (bmax m c) (bmax m (prv c)) (bmax m (nxt c)) (lblk m (opp c)) = fac m c (nxt c) := rfl
theorem fac_opp (c : Dev nD) : k0_pay23 (bmax m c) (bmax m (prv c)) (bmax m (nxt c)) (lblk m (opp c)) = fac m c (opp c) := rfl

theorem oblk_prv (c : Dev nD) : k0_pay26 (fac m c (prv c)) (rec m c) (bexp m (prv c)) = oblk m c (prv c) := rfl
theorem oblk_nxt (c : Dev nD) : k0_pay27 (fac m c (nxt c)) (rec m c) (bexp m (nxt c)) = oblk m c (nxt c) := rfl
theorem oblk_opp (c : Dev nD) : k0_pay28 (fac m c (opp c)) (rec m c) (bexp m (opp c)) = oblk m c (opp c) := rfl

end Cert.KernelIdealProof

end
-- ==== Proof.KernelIdeal.Schedule.lean ====
/-
# The protocol of the kernel

Each device has thirteen counters: the barrier, and twelve transfer semaphores (`Ring.lean` numbers them). Each is used
for one round.

* The barrier of device `d` is signalled once by each neighbour. The signal of `nxt d` hands `d` the half-blocks of
  `nxt d`'s communication buffer that `d`'s transfers 0, 2, 4 will land in; that of `prv d` those of `prv d`'s that
  transfers 1, 3, 5 will land in.
* The sending semaphore of a transfer returns the share of the source half-block lent to it.
* The arrival semaphore of a transfer hands over the half-block that arrived, holding its part of the product.
-/
module

public import proofs.«01_k».proof.Proof.KernelIdeal.Contents

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The counters -/

/-- The barrier semaphore. -/
abbrev barS : Sem sig := (SemArray.scalar (sig.barrier 0 rfl) : Sems sig S_).sem
/-- Transfer semaphore `k`. -/
def dQ (k : Fin 12) : DmaSem sig := ⟨k.val + 3, by have := k.isLt; show _ < 15; omega⟩

abbrev barCell (c : Dev nD) : GSem nD τ sig := ((c : Thread nD τ), .reg barS)
abbrev xCell (c : Dev nD) (k : Fin 12) : GSem nD τ sig := ((c : Thread nD τ), .dma (dQ k))

theorem dQ_inj {k k' : Fin 12} (h : dQ k = dQ k') : k = k' := by
  have := congrArg Fin.val h; simp only [dQ] at this; exact Fin.ext (by omega)

/-! ## What the counters hand over -/

/-- The share of its source a transfer borrows, and the full share for what arrives. -/
def xshare : Fin 12 → PosShare TreeShare
  | 0 => fullShare.right.left | 1 => fullShare.right.right | 2 => fullShare.right | 3 => fullShare.right
  | 4 => fullShare.right.left | 5 => fullShare.right.right
  | 6 => fullShare | 7 => fullShare | 8 => fullShare | 9 => fullShare | 10 => fullShare | 11 => fullShare

theorem xshare_rk (i : Fin 6) : xshare (rk i) = fullShare := by
  fin_cases i <;> rfl

/-- Device `c` owns half `h` of block `b` of its communication buffer, at share `q`, with the product in it. -/
abbrev cp (c b : Dev nD) (h : Fin 2) (q : PosShare TreeShare) : sProp 𝕄 := cpt c b h q (logits m)

/-- What transfer semaphore `k` of device `d` hands over. -/
def xpay (d : Dev nD) (k : Fin 12) : sProp 𝕄 := cp m d (xblk k d) (xhalf k) (xshare k)

/-- Where transfer `i` of device `d` lands. -/
def landing (i : Fin 6) (d : Dev nD) : sProp 𝕄 := iprop(∃ f, cpt (tgt i d) (xblk (sk i) d) (xhalf (sk i)) fullShare f)

/-- What the two signals to the barrier of device `d` hand over. -/
def barPay (d : Dev nD) (b : Bool) : sProp 𝕄 :=
  if b then iprop(landing (F := F) 0 d ∗ landing (F := F) 2 d ∗ landing (F := F) 4 d)
  else iprop(landing (F := F) 1 d ∗ landing (F := F) 3 d ∗ landing (F := F) 5 d)

abbrev IsBar (g : GSem nD τ sig) : Prop := g.1.2 = .tc ∧ g.2 = .reg barS
abbrev IsX (g : GSem nD τ sig) : Prop := g.1.2 = .tc ∧ ∃ k, g.2 = .dma (dQ k)

open Classical in
/-- The schedule: one round on each counter. -/
def proto : Rounds.Schedule (GSem nD τ sig) Bool 𝕄 where
  duties g r := if r = 0 ∧ IsBar g then Finset.univ else if r = 0 ∧ IsX g then {false} else ∅
  unitless _ := False
  amount g _ _ := if g.2 = .reg barS then 1 else N
  payload g _ d :=
    if g.2 = .reg barS then barPay g.1.1 d
    else if h : ∃ k, g.2 = .dma (dQ k) then xpay m g.1.1 h.choose else iprop(emp)
  amount_pos g _ _ _ := by
    by_cases h : g.2 = .reg barS
    · rw [if_pos h]; exact Nat.one_pos
    · rw [if_neg h]; exact N_pos

instance proto_payload_storable (g : GSem nD τ sig) (r : ℕ) (d : Bool) :
    BI.Storable (upEmb : UEmb _ 𝕄) ((proto (F := F) m).payload g r d) := by
  unfold proto barPay landing xpay cp cpt
  dsimp only
  (repeat' split) <;> infer_instance

section Sched
variable (c : Dev nD)

theorem duties_bar : (proto (F := F) m).duties (barCell c) 0 = Finset.univ := by dsimp only [proto]; exact if_pos ⟨rfl, rfl, rfl⟩
theorem duties_x (k : Fin 12) : (proto (F := F) m).duties (xCell c k) 0 = {false} := by
  dsimp only [proto]; rw [if_neg (fun h => by cases h.2.2)]
  exact if_pos ⟨rfl, rfl, k, rfl⟩
theorem duties_later (g : GSem nD τ sig) : ∀ r, 1 ≤ r → (proto (F := F) m).duties g r = ∅ :=
  fun r hr => by dsimp only [proto]; rw [if_neg fun h => by omega, if_neg fun h => by omega]

theorem amount_bar (d : Bool) : (proto (F := F) m).amount (barCell c) 0 d = 1 := by dsimp only [proto]; exact if_pos rfl
theorem amount_x (k : Fin 12) (d : Bool) : (proto (F := F) m).amount (xCell c k) 0 d = N := by
  dsimp only [proto]; exact if_neg (fun h => by cases h)

theorem expect_bar : (proto (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_x (k : Fin 12) : (proto (F := F) m).expect (xCell c k) 0 = N := by
  unfold Schedule.expect Schedule.amountOf; rw [duties_x m c k, Finset.sum_singleton, amount_x]

theorem payload_bar (d : Bool) : (proto (F := F) m).payload (barCell c) 0 d = barPay c d := by dsimp only [proto]; rw [if_pos rfl]
theorem payload_x (k : Fin 12) (d : Bool) : (proto (F := F) m).payload (xCell c k) 0 d = xpay m c k := by
  dsimp only [proto]
  have h : ∃ k', (SemLoc.dma (dQ k) : SemLoc sig) = .dma (dQ k') := ⟨k, rfl⟩
  rw [if_neg (fun h => by cases h), dif_pos h]
  have e : h.choose = k := (dQ_inj (SemLoc.dma.inj h.choose_spec)).symm
  rw [e]

theorem rest_bar : bigSep ((proto (F := F) m).duties (barCell c) 0 \ ∅) (fun d => (proto (F := F) m).payload (barCell c) 0 d)
    = iprop(barPay (F := F) c false ∗ barPay (F := F) c true) := by
  rw [Finset.sdiff_empty, duties_bar, bigSep_univ_eq_bigSepL [false, true] (by decide) (by decide), bigSepL_cons_cons, bigSepL_singleton,
    payload_bar, payload_bar]
  rfl
theorem rest_x (k : Fin 12) : bigSep ((proto (F := F) m).duties (xCell c k) 0 \ ∅) (fun d => (proto (F := F) m).payload (xCell c k) 0 d)
    = xpay m c k := by
  rw [Finset.sdiff_empty, duties_x m c k, bigSep_singleton, payload_x]

end Sched

/-! ## What each device owes, and the order of the counters -/

/-- Having still to start the transfers in `l`, last first, device `c` owes each one's target its arrival. -/
def owed (c : Dev nD) : List (Fin 6) → CellTallies nD τ sig Unit
  | [] => 0
  | i :: l => owed c l + tallyAt (xCell (tgt i c) (rk i)) () N

/-- The order the kernel starts its transfers in. -/
abbrev order : List (Fin 6) := [0, 1, 4, 5, 2, 3]

/-- At the start device `c` owes a signal to each neighbour's barrier as well. -/
def owed₁ (c : Dev nD) : CellTallies nD τ sig Unit := owed c order + tallyAt (barCell (nxt c)) () 1
def owed₀ (c : Dev nD) : CellTallies nD τ sig Unit := owed₁ c + tallyAt (barCell (prv c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The levels: staging and sending 0, the barrier 1, the arrival of a first transfer 2, of a forwarded one 3. -/
def lvS : SemLoc sig → ℕ
  | .reg _ => 1
  | .dma q => if q.val < 9 then 0 else if q.val = 11 ∨ q.val = 12 then 3 else 2
def lv (g : GSem nD τ sig) (_ : Unit) : ℕ := lvS g.2

theorem owed_pos {c : Dev nD} {l : List (Fin 6)} {g : GSem nD τ sig} {u : Unit} (h : 0 < owed c l g u) :
    ∃ i ∈ l, g = xCell (tgt i c) (rk i) := by
  induction l with
  | nil => exact absurd h (Nat.lt_irrefl 0)
  | cons i l ih =>
    simp only [owed] at h
    rw [Pi.add_apply, Finsupp.add_apply, tallyAt_apply] at h
    by_cases hg : g = xCell (tgt i c) (rk i)
    · exact ⟨i, List.mem_cons_self, hg⟩
    · rw [if_neg (fun h' => hg h'.1), Nat.add_zero] at h
      obtain ⟨j, hj, e⟩ := ih h
      exact ⟨j, List.mem_cons_of_mem _ hj, e⟩

theorem owed₀_pos {c : Dev nD} {g : GSem nD τ sig} {u : Unit} (h : 0 < owed₀ c g u) :
    (∃ i : Fin 6, g = xCell (tgt i c) (rk i)) ∨ g = barCell (nxt c) ∨ g = barCell (prv c) := by
  unfold owed₀ owed₁ at h
  rw [Pi.add_apply, Finsupp.add_apply, Pi.add_apply, Finsupp.add_apply, tallyAt_apply, tallyAt_apply] at h
  by_cases h1 : g = barCell (nxt c)
  · exact .inr (.inl h1)
  by_cases h2 : g = barCell (prv c)
  · exact .inr (.inr h2)
  rw [if_neg (fun h' => h1 h'.1), if_neg (fun h' => h2 h'.1)] at h
  simp only [Nat.add_zero] at h
  obtain ⟨i, -, e⟩ := owed_pos h
  exact .inl ⟨i, e⟩

omit [FloatOps F] in
/-- Device `c` may wait on a counter while it owes only arrivals of a higher level. -/
theorem mayWait_owed (c : Dev nD) (s : SemLoc sig) (l : List (Fin 6)) (hl : ∀ i ∈ l, lvS s < lvS (.dma (dQ (rk i)))) :
    (levAts L lv : sProp 𝕄) ⊢ MayWait (c : Thread nD τ) s () (owed c l) :=
  MayOwe.of_cut (L := L) (lev := lv) (lvS s) (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; exact Nat.le_refl _)
    (fun g u hg => by obtain ⟨i, hi, rfl⟩ := owed_pos hg; exact hl i hi)

omit [FloatOps F] in
/-- The staging transfers may be waited for at the start, and owing nothing. -/
theorem mayWait_stage (c : Dev nD) (q : DmaSem sig) (hq : q.val < 9) (O : CellTallies nD τ sig Unit) (hO : O = owed₀ c ∨ O = 0) :
    (levAts L lv : sProp 𝕄) ⊢ MayWait (c : Thread nD τ) (.dma q) () O := by
  have h0 : lvS (.dma q : SemLoc sig) = 0 := if_pos hq
  rcases hO with rfl | rfl
  · refine MayOwe.of_cut (L := L) (lev := lv) 0 (fun p hp => by rw [Finset.mem_singleton.mp hp, L_tc]; exact Finset.mem_singleton_self _)
      (fun g u hg => by rcases owed₀_pos hg with ⟨i, rfl⟩ | rfl | rfl <;> exact Finset.mem_singleton_self _)
      (fun p hp => by rw [Finset.mem_singleton.mp hp]; exact Nat.le_of_eq h0)
      (fun g u hg => by
        rcases owed₀_pos hg with ⟨i, rfl⟩ | rfl | rfl
        · have hp : ∀ i : Fin 6, 0 < lvS (.dma (dQ (rk i))) := by decide
          exact hp i
        · exact Nat.one_pos
        · exact Nat.one_pos)
  · rw [MayWait_zero]; iintro -; iempintro

end Cert.KernelIdealProof

end
-- ==== Proof.KernelIdeal.Steps.lean ====
/-
# One step of the kernel at a time

For each kind of operation the kernel performs, what device `c` must own before it and owns after it.
-/
module

public import proofs.«01_k».proof.Proof.KernelIdeal.Schedule

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- `Q` holds after device `c` runs `p`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem run_ret (c : Dev nD) {α : Type} (a : α) (Q : α → sProp 𝕄) : Q a ⊢ run c (.ret a) Q := by
  unfold run
  rw [wp_ret]
  iintro H
  imodintro
  iexact H

theorem run_ret_eq (c : Dev nD) {α : Type} {a b : α} (e : a = b) (Q : α → sProp 𝕄) : Q b ⊢ run c (.ret a) Q := by
  subst e; exact run_ret c a Q

theorem run_bind (c : Dev nD) {α β : Type} (p : Prog (TpuEff nD τ sig (Elt F) Λ₀ .tc) α) (k : α → Prog (TpuEff nD τ sig (Elt F) Λ₀ .tc) β) (Q : β → sProp 𝕄) :
    run c (p >>= k) Q = run c p (fun a => run c (k a) Q) := wp_bind _ _ _ _ _ _

/-- The thirteen counters of a device: the barrier and the twelve transfer semaphores. -/
abbrev CK : Type := Unit ⊕ Fin 12
def kcell (p : Dev nD × CK) : GSem nD τ sig :=
  match p.2 with
  | .inl _ => barCell p.1
  | .inr k => xCell p.1 k

/-- Every counter's invariant, and that its round has begun. -/
def records (K : Dev nD × CK → ℕ) : sProp 𝕄 :=
  bigSep Finset.univ fun p : Dev nD × CK => iprop(cellInv ER (proto m) (K p) (kcell p) ∗ reached ER (kcell p) 0)

instance records_persistent (K : Dev nD × CK → ℕ) : BI.Persistent (records m K) := by unfold records; infer_instance

theorem records_bar (K : Dev nD × CK → ℕ) (c : Dev nD) :
    records m K ⊢ iprop(cellInv ER (proto m) (K (c, .inl ())) (barCell c) ∗ reached ER (barCell c) 0) :=
  bigSep_elim (Finset.mem_univ ((c, .inl ()) : Dev nD × CK))
theorem records_x (K : Dev nD × CK → ℕ) (c : Dev nD) (k : Fin 12) :
    records m K ⊢ iprop(cellInv ER (proto m) (K (c, .inr k)) (xCell c k) ∗ reached ER (xCell c k) 0) :=
  bigSep_elim (Finset.mem_univ ((c, .inr k) : Dev nD × CK))

/-- Device `c` owes `O`. -/
def ow (c : Dev nD) (O : CellTallies nD τ sig Unit) : sProp 𝕄 := iprop(∃ W, owes (c : Thread nD τ) O W)

/-- The right to start transfer `i` of device `c`: the duties on its two counters. -/
def stok (c : Dev nD) (i : Fin 6) : sProp 𝕄 :=
  iprop(dutyTok ER (xCell c (sk i)) 0 false ∗ dutyTok ER (xCell (tgt i c) (rk i)) 0 false)

/-- The right to take one half-block's bytes off counter `k` of device `c`. -/
abbrev crd (c : Dev nD) (k : Fin 12) : sProp 𝕄 := cred (tallyAt (xCell c k) () N)
/-- The place device `c` has reached on its counter `k`. -/
abbrev plc (c : Dev nD) (k : Fin 12) (R : ℕ) : sProp 𝕄 := atPos ER (xCell c k) R ∅ 0

/-! ## The barrier -/

/-- A signal to the barrier of device `d`, paying its duty `b`. -/
theorem wp_barrier_signal (K : Dev nD × CK → ℕ) (c d : Dev nD) (b : Bool) (n : ℕ) (hn : n = 1) {O₀ : CellTallies nD τ sig Unit} (O : CellTallies nD τ sig Unit)
    (hO : O₀ = O + tallyAt (barCell d) () 1) {s : Sem sig} (hs : s = barS) {e : Dev nD} (he : e = d)
    {α : Type} {Q : α → sProp 𝕄} {k : PUnit → Prog (TpuEff nD τ sig (Elt F) Λ₀ .tc) α} :
    iprop(records m K ∗ ow c O₀ ∗ dutyTok ER (barCell d) 0 b ∗ barPay d b)
      ⊢ iprop((ow c O -∗ run c (k ⟨⟩) Q) -∗ run c (.op (.semSignal (e : Thread nD τ) s n) k) Q) := by
  subst hn hs he
  unfold ow
  iintro ⟨#HR, ⟨%W, HO⟩, Ht, Hp⟩ Hk
  ihave HIr := (records_bar m K e) $$ HR
  icases HIr with ⟨#HI, #Hr⟩
  iapply (Rounds.wp_signal 𝒱₀ ER (proto m) (c : Thread nD τ) none (dst := (e : Thread nD τ)) (κ := K (e, .inl ()))
      (d := b) (by rw [duties_bar]; exact Finset.mem_univ _) (amount_bar m e b) () O hO) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The wait for both signals on its own barrier, owing only arrivals. -/
theorem wp_barrier_wait (K : Dev nD × CK → ℕ) (c : Dev nD) (l : List (Fin 6)) {s : Sem sig} (hs : s = barS) (n : ℕ) (hn : n = 2)
    {α : Type} {Q : α → sProp 𝕄} {k : PUnit → Prog (TpuEff nD τ sig (Elt F) Λ₀ .tc) α} :
    iprop(records m K ∗ levAts L lv ∗ cred (tallyAt (barCell c) () 2) ∗ ow c (owed c l) ∗ atPos ER (barCell c) 0 ∅ 0)
      ⊢ iprop(((ow c (owed c l) ∗ atPos ER (barCell c) 1 ∅ 0 ∗ barPay (F := F) c false ∗ barPay (F := F) c true) -∗ run c (k ⟨⟩) Q)
          -∗ run c (.op (.semWait s n) k) Q) := by
  subst hs hn
  unfold ow
  iintro ⟨#HR, #Hlev, Hc, ⟨%W, HO⟩, Hat⟩ Hk
  ihave HIr := (records_bar m K c) $$ HR
  icases HIr with ⟨#HI, -⟩
  iapply (Rounds.wp_wait_rest_token 𝒱₀ ER (proto m) (c : Thread nD τ) none (κ := K (c, .inl ()))
      (wpE_semWait_eq 𝒱₀ (c : Thread nD τ) none Set.univ) (Set.mem_univ _) () (O := owed c l) (W := W) (R := 0) (m := 0) (T := ∅)
      (by rw [expect_bar])) $$ [Hc HO Hat]
  · isplitr; · iexact HI
    isplitl [Hc]; · iexact Hc
    isplitl [HO]; · iexact HO
    isplitr
    · iapply (mayWait_owed c (.reg barS) l (fun i _ => by
        have hp : ∀ i : Fin 6, 1 < lvS (.dma (dQ (rk i))) := by decide
        exact hp i)); iexact Hlev
    iexact Hat
  iintro ⟨HO, Hat, -, Hpay⟩
  ihave Hp2 := (Entails.of_eq (rest_bar m c)) $$ Hpay
  iapply Hk
  isplitl [HO]; · iexists _; iexact HO
  isplitl [Hat]; · iexact Hat
  iexact Hp2

/-! ## Transfers -/

set_option maxHeartbeats 1000000 in
/-- Starting transfer `i`: its source's share is lent, the landing half-block and the two duties are spent, and one
    arrival less is owed. -/
theorem wp_transfer (K : Dev nD × CK → ℕ) (i : Fin 6) (c : Dev nD) (l : List (Fin 6)) {src dst : Memref sig .tc .vmem S256x2048 .bf16}
    (hs : src = hM (xblk (sk i) c) (xhalf (sk i))) (hd : dst = hM (xblk (sk i) c) (xhalf (sk i)))
    {n : Dev nD} (hn : n = tgt i c) {sS vS : DmaSem sig} (hsS : sS = dQ (sk i)) (hvS : vS = dQ (rk i))
    {hsc : (dst : Memref sig (Dev.tc n : Thread nD τ).2.kind .vmem S256x2048 .bf16).view.ref.isScScratch = false}
    {hsrc : src.view.WordExact} {hdst : dst.view.WordExact}
    {hsem : DmaTarget.Typed .vmem (.dma vS) (.remote (Dev.tc n : Thread nD τ) dst (.dma sS) hsc)}
    {α : Type} {Q : α → sProp 𝕄} {k : PUnit → Prog (TpuEff nD τ sig (Elt F) Λ₀ .tc) α} :
    iprop(records m K ∗ xpay m c (sk i) ∗ landing i c ∗ ow c (owed c (i :: l)) ∗ stok c i)
      ⊢ iprop(((crd (F := F) c (sk i) ∗ ow c (owed c l)) -∗ run c (k ⟨⟩) Q)
          -∗ run c (.op (.enqueueDma src (.remote (Dev.tc n : Thread nD τ) dst (.dma sS) hsc) (.dma vS) hsrc hdst hsem) k) Q) := by
  subst hs hd hn hsS hvS
  unfold ow landing stok xpay cp cpt
  iintro ⟨#HR, Hsrc, ⟨%f, Hdst⟩, ⟨%W, HO⟩, Hts, Htr⟩ Hk
  ihave HIs := (records_x m K c (sk i)) $$ HR
  icases HIs with ⟨#HIs, #Hrs⟩
  ihave HIr := (records_x m K (tgt i c) (rk i)) $$ HR
  icases HIr with ⟨#HIr, #Hrr⟩
  iapply (Rounds.wp_send_pointsTo 𝒱₀ ER (proto m) (c : Thread nD τ) none (κ₁ := K (c, .inr (sk i))) (κ₂ := K (tgt i c, .inr (rk i)))
    (q := xshare (sk i)) (fs := logits m) (fd := f)
    (r₁ := 0) (r₂ := 0) (d₁ := false) (d₂ := false)
    (by rw [duties_x m c (sk i)]; exact Finset.mem_singleton_self _)
    (by rw [duties_x m (tgt i c) (rk i)]; exact Finset.mem_singleton_self _)
    () () N (by exact hM_credit _ _) (amount_x m c (sk i) false) (amount_x m (tgt i c) (rk i) false) (owed c l) rfl (W := W)
    (by rw [payload_x, hM_set]; exact BI.Entails.refl _)
    (by
      rw [payload_x, hM_set]
      unfold xpay cp cpt
      rw [xblk_rk, xhalf_rk, xshare_rk]
      exact Entails.of_eq (pointsTo_congr (copy_half (logits m) f _ _)))) $$ [Hsrc Hdst HO Hts Htr]
  · isplitr; · iexact HIs
    isplitr; · iexact HIr
    isplitl [Hsrc]; · rw [hM_set]; iexact Hsrc
    isplitl [Hdst]; · rw [hM_set]; iexact Hdst
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists W; iexact HO

/-- Waiting on transfer semaphore `k`, owing only arrivals of a higher level: what it hands over is the device's. -/
theorem wp_transfer_wait (K : Dev nD × CK → ℕ) (k₀ : Fin 12) (c : Dev nD) (l : List (Fin 6)) (hl : ∀ i ∈ l, lvS (.dma (dQ k₀)) < lvS (.dma (dQ (rk i))))
    {q : DmaSem sig} (hq : q = dQ k₀) {src dst : Memref sig .tc .vmem S256x2048 .bf16} (hN : dst.view.dmaCredit = N)
    {hsrc : src.view.WordExact} {hdst : dst.view.WordExact}
    {α : Type} {Q : α → sProp 𝕄} {k : PUnit → Prog (TpuEff nD τ sig (Elt F) Λ₀ .tc) α} :
    iprop(records m K ∗ levAts L lv ∗ crd (F := F) c k₀ ∗ ow c (owed c l) ∗ plc c k₀ 0)
      ⊢ iprop(((ow c (owed c l) ∗ plc (F := F) c k₀ 1 ∗ xpay m c k₀) -∗ run c (k ⟨⟩) Q)
          -∗ run c (.op (.waitDma2 q src dst hsrc hdst) k) Q) := by
  subst hq
  unfold ow
  iintro ⟨#HR, #Hlev, Hc, ⟨%W, HO⟩, Hat⟩ Hk
  ihave HIr := (records_x m K c k₀) $$ HR
  icases HIr with ⟨#HI, -⟩
  iapply (Rounds.wp_wait_rest_token 𝒱₀ ER (proto m) (c : Thread nD τ) none (κ := K (c, .inr k₀))
      (wpE_waitDma2_eq 𝒱₀ (c : Thread nD τ) none Set.univ) (Set.mem_univ _) () (O := owed c l) (W := W) (R := 0) (m := 0) (T := ∅)
      (by rw [Nat.zero_add, hN, expect_x])) $$ [Hc HO Hat]
  · isplitr; · iexact HI
    isplitl [Hc]; · rw [hN]; iexact Hc
    isplitl [HO]; · iexact HO
    isplitr; · iapply (mayWait_owed c (.dma (dQ k₀)) l hl); iexact Hlev
    iexact Hat
  iintro ⟨HO, Hat, -, Hpay⟩
  ihave Hp2 := (Entails.of_eq (rest_x m c k₀)) $$ Hpay
  iapply Hk
  isplitl [HO]; · iexists _; iexact HO
  isplitl [Hat]; · iexact Hat
  iexact Hp2

/-! ## Loads and stores -/

theorem zero_off : (![0, 0] : Fin 2 → Nat) = fun _ => 0 := funext fun a => by fin_cases a <;> rfl

/-- Loading all of the staged `x`. -/
theorem wp_load_x (c : Dev nD) {hl : (xM.view).LoadsAt xR.toLoadRect} {α : Type} {Q : α → sProp 𝕄}
    {k : (xR.toLoadRect.shape.Idx → Elt F .f32) → Prog (TpuEff nD τ sig (Elt F) Λ₀ .tc) α} :
    (((c : Thread nD τ).loc cc0_stg0_0) ↦{fullShare} xstg m c : sProp 𝕄)
      ⊢ iprop(((((c : Thread nD τ).loc cc0_stg0_0) ↦{fullShare} xstg m c) -∗ run c (k (xstg m c)) Q)
          -∗ run c (.op (.load xM xR.toLoadRect hl) k) Q) := by
  have e : xM.view.readAt (Elt F) xR.toLoadRect (xstg m c) = xstg m c := Memref.readAt_unit_zero (Elt F) cc0_stg0_0 zero_off _ _
  iintro H Hk
  iapply (wp_load 𝒱₀ (c : Thread nD τ) none Set.univ (m := xM) (r := xR.toLoadRect) (hl := hl) (k := k) (Q := Q) (q := fullShare) (f := xstg m c)
    (defs := defs₀ (F := F)) (Finset.subset_univ _)) $$ H
  rw [e]
  iexact Hk

/-- Loading a rectangle of the staged block of `W`. -/
theorem wp_load_w (c : Dev nD) (r : Rect S512x4096) {hl : (wM.view).LoadsAt r.toLoadRect} {α : Type} {Q : α → sProp 𝕄}
    {k : (r.toLoadRect.shape.Idx → Elt F .f32) → Prog (TpuEff nD τ sig (Elt F) Λ₀ .tc) α} :
    (((c : Thread nD τ).loc cc0_stg1_0) ↦{fullShare} wstg m c : sProp 𝕄)
      ⊢ iprop(((((c : Thread nD τ).loc cc0_stg1_0) ↦{fullShare} wstg m c) -∗ run c (k ((wM.access r : View sig .tc _ _ _).read (Elt F) (wstg m c))) Q)
          -∗ run c (.op (.load wM r.toLoadRect hl) k) Q) :=
  wp_load 𝒱₀ (c : Thread nD τ) none Set.univ (m := wM) (r := r.toLoadRect) (hl := hl) (k := k) (Q := Q) (q := fullShare) (f := wstg m c)
    (defs := defs₀ (F := F)) (Finset.subset_univ _)

/-- Loading a half-block of the communication buffer whose value is not used. -/
theorem wp_load_half (c b : Dev nD) (h : Fin 2) (q : PosShare TreeShare) (f : cc0_scratch0.ty.Contents (Elt F)) {off : Fin 2 → Nat} (e : off = hoff b h)
    {inb : ∀ a, off a + S256x2048.size a ≤ S256x16384.size a} {hl : (cM.view).LoadsAt (Rect.unit (s := S256x16384) off S256x2048.size inb).toLoadRect}
    {α : Type} {Q : α → sProp 𝕄} {k : ((Rect.unit (s := S256x16384) off S256x2048.size inb).toLoadRect.shape.Idx → Elt F .bf16) → Prog (TpuEff nD τ sig (Elt F) Λ₀ .tc) α} :
    (cpt c b h q f : sProp 𝕄)
      ⊢ iprop((cpt c b h q f -∗ run c (k (cM.view.readAt (Elt F) (Rect.unit (s := S256x16384) off S256x2048.size inb).toLoadRect f)) Q)
          -∗ run c (.op (.load cM (Rect.unit (s := S256x16384) off S256x2048.size inb).toLoadRect hl) k) Q) := by
  subst e
  unfold cpt
  exact wp_load 𝒱₀ (c : Thread nD τ) none Set.univ (m := cM) (hl := hl) (k := k) (Q := Q) (defs := defs₀ (F := F)) (Finset.map_refl.subset)

omit [FloatOps F] in
/-- A half-block just stored holds the half-block's part of the contents `fromHalves g`. -/
theorem stored_half (g : Dev nD → Fin 2 → S256x2048.Idx → Elt F .bf16) (c b : Dev nD) (h : Fin 2) (f : cc0_scratch0.ty.Contents (Elt F)) :
    (((c : Thread nD τ).loc cc0_scratch0) ↦[hS b h]{fullShare} ((cM.access (hR b h) : View sig .tc _ _ _).write (Elt F) f (g b h) Finset.univ) : sProp 𝕄)
      ⊢ cpt c b h fullShare (fromHalves g) :=
  Entails.of_eq (pointsTo_congr (store_half g b h f))

/-- Storing half-block `b`, `h` of `g` in place. -/
theorem wp_store_half (g : Dev nD → Fin 2 → S256x2048.Idx → Elt F .bf16) (c b : Dev nD) (h : Fin 2) (f : cc0_scratch0.ty.Contents (Elt F)) {off : Fin 2 → Nat} (e : off = hoff b h)
    {inb : ∀ a, off a + S256x2048.size a ≤ S256x16384.size a} {w : S256x2048.Idx → Elt F .bf16} (hw : w = g b h)
    {hx : (cM.access (Rect.unit (s := S256x16384) off S256x2048.size inb)).Stores Finset.univ}
    {hm : (Finset.univ : Finset (Rect.unit (s := S256x16384) off S256x2048.size inb).shape.Idx) = Finset.univ ∨ ∀ a, (Rect.unit (s := S256x16384) off S256x2048.size inb).stride a = 1}
    {α : Type} {Q : α → sProp 𝕄} {k : PUnit → Prog (TpuEff nD τ sig (Elt F) Λ₀ .tc) α} :
    (cpt c b h fullShare f : sProp 𝕄)
      ⊢ iprop((cpt c b h fullShare (fromHalves g) -∗ run c (k ⟨⟩) Q)
          -∗ run c (.op (.store cM (Rect.unit (s := S256x16384) off S256x2048.size inb) w Finset.univ hx hm) k) Q) := by
  subst e hw
  iintro H Hk
  unfold cpt
  iapply (wp_store 𝒱₀ (c : Thread nD τ) none Set.univ (m := cM) (hx := hx) (hm := hm) (k := k) (Q := Q) (defs := defs₀ (F := F)) (View.set_slice_whole cc0_scratch0 (hR b h)).subset) $$ H
  iintro H
  iapply Hk
  ihave H2 := (stored_half g c b h f) $$ H
  unfold cpt
  iexact H2

/-- Loading block `b` of the communication buffer, the product in it. -/
theorem wp_load_block (c b : Dev nD) (q : PosShare TreeShare) {off : Fin 2 → Nat} (e : off = woff b)
    {inb : ∀ a, off a + S256x4096.size a ≤ S256x16384.size a} {hl : (cM.view).LoadsAt (Rect.unit (s := S256x16384) off S256x4096.size inb).toLoadRect}
    {α : Type} {Q : α → sProp 𝕄} {k : ((Rect.unit (s := S256x16384) off S256x4096.size inb).toLoadRect.shape.Idx → Elt F .bf16) → Prog (TpuEff nD τ sig (Elt F) Λ₀ .tc) α} :
    (cwide c b q (logits m) : sProp 𝕄)
      ⊢ iprop((cwide c b q (logits m) -∗ run c (k (lblk m b)) Q)
          -∗ run c (.op (.load cM (Rect.unit (s := S256x16384) off S256x4096.size inb).toLoadRect hl) k) Q) := by
  subst e
  unfold cwide
  exact wp_load 𝒱₀ (c : Thread nD τ) none Set.univ (m := cM) (hl := hl) (k := k) (Q := Q) (defs := defs₀ (F := F)) (Finset.map_refl.subset)

omit [FloatOps F] in
theorem wp_load_out [FloatOps F] (c b : Dev nD) (w : S256x4096.Idx → Elt F .f32) {off : Fin 2 → Nat} (e : off = woff b)
    {inb : ∀ a, off a + S256x4096.size a ≤ S256x16384.size a} {hl : (oM.view).LoadsAt (Rect.unit (s := S256x16384) off S256x4096.size inb).toLoadRect}
    {α : Type} {Q : α → sProp 𝕄} {k : ((Rect.unit (s := S256x16384) off S256x4096.size inb).toLoadRect.shape.Idx → Elt F .f32) → Prog (TpuEff nD τ sig (Elt F) Λ₀ .tc) α} :
    (owide c b w : sProp 𝕄)
      ⊢ iprop((owide c b w -∗ run c (k w) Q)
          -∗ run c (.op (.load oM (Rect.unit (s := S256x16384) off S256x4096.size inb).toLoadRect hl) k) Q) := by
  subst e
  unfold owide
  iintro ⟨%f, %hf, H⟩ Hk
  iapply (wp_load 𝒱₀ (c : Thread nD τ) none Set.univ (m := oM) (hl := hl) (k := k) (Q := Q) (defs := defs₀ (F := F)) (Finset.map_refl.subset)) $$ H
  iintro H
  rw [show oM.view.readAt (Elt F) (wR b).toLoadRect f = w from hf]
  iapply Hk
  iexists f; isplitr; · (ipureintro; exact hf)
  iexact H

/-- Storing `w'` in block `b` of the result. -/
theorem wp_store_out (c b : Dev nD) (w w' : S256x4096.Idx → Elt F .f32) {off : Fin 2 → Nat} (e : off = woff b)
    {inb : ∀ a, off a + S256x4096.size a ≤ S256x16384.size a}
    {hx : (oM.access (Rect.unit (s := S256x16384) off S256x4096.size inb)).Stores Finset.univ}
    {hm : (Finset.univ : Finset (Rect.unit (s := S256x16384) off S256x4096.size inb).shape.Idx) = Finset.univ ∨ ∀ a, (Rect.unit (s := S256x16384) off S256x4096.size inb).stride a = 1}
    {α : Type} {Q : α → sProp 𝕄} {k : PUnit → Prog (TpuEff nD τ sig (Elt F) Λ₀ .tc) α} :
    (owide c b w : sProp 𝕄)
      ⊢ iprop((owide c b w' -∗ run c (k ⟨⟩) Q)
          -∗ run c (.op (.store oM (Rect.unit (s := S256x16384) off S256x4096.size inb) w' Finset.univ hx hm) k) Q) := by
  subst e
  unfold owide
  iintro ⟨%f, %hf, H⟩ Hk
  iapply (wp_store 𝒱₀ (c : Thread nD τ) none Set.univ (m := oM) (hx := hx) (hm := hm) (k := k) (Q := Q) (defs := defs₀ (F := F))
    (View.set_slice_whole cc0_stg2_0 (wR b)).subset) $$ H
  iintro H
  iapply Hk
  iexists (oM.access (wR b)).write (Elt F) f w' Finset.univ; isplitr; · (ipureintro; exact View.read_write_univ _ _)
  iexact H

end Cert.KernelIdealProof

end
-- ==== Proof.KernelIdeal.PartsA.lean ====
/-
# The first part of the kernel

What each transfer lends and delivers; the barrier, the device's own block of the product, and the transfers of it.
-/
module

public import proofs.«01_k».proof.Proof.KernelIdeal.Steps

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! What each transfer lends or delivers. -/

theorem xpay_s0 (c : Dev nD) : xpay m c (sk 0) = cp m c c 0 fullShare.right.left := rfl
theorem xpay_s1 (c : Dev nD) : xpay m c (sk 1) = cp m c c 0 fullShare.right.right := rfl
theorem xpay_s2 (c : Dev nD) : xpay m c (sk 2) = cp m c (prv c) 0 fullShare.right := rfl
theorem xpay_s3 (c : Dev nD) : xpay m c (sk 3) = cp m c (nxt c) 1 fullShare.right := rfl
theorem xpay_s4 (c : Dev nD) : xpay m c (sk 4) = cp m c c 1 fullShare.right.left := rfl
theorem xpay_s5 (c : Dev nD) : xpay m c (sk 5) = cp m c c 1 fullShare.right.right := rfl
theorem xpay_r0 (c : Dev nD) : xpay m c (rk 0) = cp m c (prv c) 0 fullShare := rfl
theorem xpay_r1 (c : Dev nD) : xpay m c (rk 1) = cp m c (nxt c) 0 fullShare := rfl
theorem xpay_r2 (c : Dev nD) : xpay m c (rk 2) = cp m c (opp c) 0 fullShare := rfl
theorem xpay_r3 (c : Dev nD) : xpay m c (rk 3) = cp m c (opp c) 1 fullShare := rfl
theorem xpay_r4 (c : Dev nD) : xpay m c (rk 4) = cp m c (prv c) 1 fullShare := rfl
theorem xpay_r5 (c : Dev nD) : xpay m c (rk 5) = cp m c (nxt c) 1 fullShare := rfl

omit [FloatOps F] in
theorem barPay_true (d : Dev nD) : barPay (F := F) d true = iprop(landing 0 d ∗ landing 2 d ∗ landing 4 d) := rfl
omit [FloatOps F] in
theorem barPay_false (d : Dev nD) : barPay (F := F) d false = iprop(landing 1 d ∗ landing 3 d ∗ landing 5 d) := rfl

/-! The semaphores the kernel names. -/

theorem send_sem0 : ((cc0_scratch1.slice (Rect.unit (s := S6) ![0] S1.size inb_S6_S1_0)).squeeze S_ squeezes_S1_S_).sem = dQ (sk 0) := rfl
theorem recv_sem0 : ((cc0_scratch2.slice (Rect.unit (s := S6) ![0] S1.size inb_S6_S1_0)).squeeze S_ squeezes_S1_S_).sem = dQ (rk 0) := rfl
theorem send_sem1 : ((cc0_scratch1.slice (Rect.unit (s := S6) ![1] S1.size inb_S6_S1_1)).squeeze S_ squeezes_S1_S_).sem = dQ (sk 1) := rfl
theorem recv_sem1 : ((cc0_scratch2.slice (Rect.unit (s := S6) ![1] S1.size inb_S6_S1_1)).squeeze S_ squeezes_S1_S_).sem = dQ (rk 1) := rfl
theorem send_sem2 : ((cc0_scratch1.slice (Rect.unit (s := S6) ![2] S1.size inb_S6_S1_2)).squeeze S_ squeezes_S1_S_).sem = dQ (sk 2) := rfl
theorem recv_sem2 : ((cc0_scratch2.slice (Rect.unit (s := S6) ![2] S1.size inb_S6_S1_2)).squeeze S_ squeezes_S1_S_).sem = dQ (rk 2) := rfl
theorem send_sem3 : ((cc0_scratch1.slice (Rect.unit (s := S6) ![3] S1.size inb_S6_S1_3)).squeeze S_ squeezes_S1_S_).sem = dQ (sk 3) := rfl
theorem recv_sem3 : ((cc0_scratch2.slice (Rect.unit (s := S6) ![3] S1.size inb_S6_S1_3)).squeeze S_ squeezes_S1_S_).sem = dQ (rk 3) := rfl
theorem send_sem4 : ((cc0_scratch1.slice (Rect.unit (s := S6) ![4] S1.size inb_S6_S1_4)).squeeze S_ squeezes_S1_S_).sem = dQ (sk 4) := rfl
theorem recv_sem4 : ((cc0_scratch2.slice (Rect.unit (s := S6) ![4] S1.size inb_S6_S1_4)).squeeze S_ squeezes_S1_S_).sem = dQ (rk 4) := rfl
theorem send_sem5 : ((cc0_scratch1.slice (Rect.unit (s := S6) ![5] S1.size inb_S6_S1_5)).squeeze S_ squeezes_S1_S_).sem = dQ (sk 5) := rfl
theorem recv_sem5 : ((cc0_scratch2.slice (Rect.unit (s := S6) ![5] S1.size inb_S6_S1_5)).squeeze S_ squeezes_S1_S_).sem = dQ (rk 5) := rfl

omit [FloatOps F] in
/-- A slice of the communication buffer at the place of half `h` of block `b`. -/
theorem slice_half {b : Dev nD} {h : Fin 2} {off : Fin 2 → Nat} (e : off = hoff b h) (inb : ∀ a, off a + S256x2048.size a ≤ S256x16384.size a)
    (hst : ∀ a, (Rect.unit (s := S256x16384) off S256x2048.size inb).stride a = 1) :
    cM.slice (Rect.unit (s := S256x16384) off S256x2048.size inb) hst = hM b h := by subst e; rfl

omit [FloatOps F] in
theorem slice_credit {off : Fin 2 → Nat} (inb : ∀ a, off a + S256x2048.size a ≤ S256x16384.size a)
    (hst : ∀ a, (Rect.unit (s := S256x16384) off S256x2048.size inb).stride a = 1) :
    (cM.slice (Rect.unit (s := S256x16384) off S256x2048.size inb) hst).view.dmaCredit = N := rfl

/-- The device keeps the left half of a half-block's share and has two quarters to lend. -/
theorem cp_three (c b : Dev nD) (h : Fin 2) :
    (cp m c b h fullShare : sProp 𝕄) ⊣⊢ iprop(cp m c b h fullShare.left ∗ cp m c b h fullShare.right.left ∗ cp m c b h fullShare.right.right) :=
  (cpt_share c b h fullShare (logits m)).trans ⟨sep_mono_right (cpt_share c b h fullShare.right (logits m)).1, sep_mono_right (cpt_share c b h fullShare.right (logits m)).2⟩

theorem cp_open (c b : Dev nD) (h : Fin 2) :
    (cpt c b h fullShare (fromHalves (half m)) : sProp 𝕄) ⊢ iprop(cp m c b h fullShare.left ∗ cp m c b h fullShare.right.left ∗ cp m c b h fullShare.right.right) :=
  (cp_three m c b h).1

/-! ## The parts of the kernel -/

/-- The barrier, the left half of its own block of the product, and the first transfer. -/
theorem part2 (K : Dev nD × CK → ℕ) (c : Dev nD) (v2 v13 v24 : BitVec 32) (f : cc0_scratch0.ty.Contents (Elt F))
    {Q : (Σ' (v43 : FVec F S256x512 .bf16), BitVec 32) → sProp 𝕄} :
    iprop(records m K ∗ levAts L lv ∗ ow c (owed₀ c) ∗ dutyTok ER (barCell (prv c)) 0 true ∗ barPay (F := F) (prv c) true ∗ dutyTok ER (barCell (nxt c)) 0 false ∗ barPay (F := F) (nxt c) false
        ∗ cred (tallyAt (barCell c) () 2) ∗ atPos ER (barCell c) 0 ∅ 0 ∗ (((c : Thread nD τ).loc cc0_stg0_0) ↦{fullShare} xstg m c) ∗ (((c : Thread nD τ).loc cc0_stg1_0) ↦{fullShare} wstg m c) ∗ cpt c c 0 fullShare f ∗ stok c 0)
      ⊢ iprop(((ow c (owed c [1, 4, 5, 2, 3]) ∗ atPos ER (barCell c) 1 ∅ 0 ∗ (landing (F := F) 1 c ∗ landing (F := F) 2 c ∗ landing (F := F) 3 c ∗ landing (F := F) 4 c ∗ landing (F := F) 5 c)
            ∗ (((c : Thread nD τ).loc cc0_stg0_0) ↦{fullShare} xstg m c) ∗ (((c : Thread nD τ).loc cc0_stg1_0) ↦{fullShare} wstg m c) ∗ cp m c c 0 fullShare.left ∗ xpay m c (sk 1) ∗ crd (F := F) c (sk 0)) -∗ Q ⟨k0_pay1 (xstg m c), Scalar.muli v13 1#32⟩)
          -∗ run c (k0_part2 xM (Memref.isWhole_whole _) wM (Memref.isWhole_whole _) oM (Memref.isWhole_whole _) cM (Memref.isWhole_whole _) cc0_scratch1 cc0_scratch2 c v2 v13 v24) Q) := by
  rw [k0_part2_eq_skeleton]; unfold k0_part2_skel
  simp only [semSignalWord, semWaitWord, Prog.lift, Prog.bind_op, Prog.bind_ret, Prog.pure_eq_ret, Prog.bind_assoc, wp_deviceId]
  iintro ⟨#HR, #Hlev, HO, Ht1, Hp1, Ht2, Hp2, Hc, Hat, Hx, Hw, Hh, Hst⟩ Hk
  iapply (wp_barrier_signal m K c (prv c) true _ rfl (owed₁ c) rfl rfl (dev1_eq c)) $$ [HO Ht1 Hp1]
  · isplitr; · iexact HR
    isplitl [HO]; · iexact HO
    isplitl [Ht1]; · iexact Ht1
    iexact Hp1
  iintro HO
  iapply (wp_barrier_signal m K c (nxt c) false _ rfl (owed c order) rfl rfl (dev2_eq c)) $$ [HO Ht2 Hp2]
  · isplitr; · iexact HR
    isplitl [HO]; · iexact HO
    isplitl [Ht2]; · iexact Ht2
    iexact Hp2
  iintro HO
  iapply (wp_barrier_wait m K c order rfl _ rfl) $$ [HO Hc Hat]
  · isplitr; · iexact HR
    isplitr; · iexact Hlev
    isplitl [Hc]; · iexact Hc
    isplitl [HO]; · iexact HO
    iexact Hat
  iintro ⟨HO, Hat, Hb1, Hb2⟩
  ihave Hb1 := (Entails.of_eq (barPay_false c)) $$ Hb1
  ihave Hb2 := (Entails.of_eq (barPay_true c)) $$ Hb2
  icases Hb1 with ⟨L1, L3, L5⟩
  icases Hb2 with ⟨L0, L2, L4⟩
  iapply (wp_load_x m c) $$ Hx
  iintro Hx
  iapply (wp_load_w m c loR) $$ Hw
  iintro Hw
  iapply (wp_load_half c c 0 fullShare f (off1_eq c)) $$ Hh
  iintro Hh
  iapply (wp_store_half (half m) c c 0 f (off1_eq c) (half_zero m c).symm) $$ Hh
  iintro Hh
  ihave Hh3 := (cp_open m c c 0) $$ Hh
  icases Hh3 with ⟨Hl, Hrl, Hrr⟩
  iapply (wp_transfer m K 0 c [1, 4, 5, 2, 3] (slice_half (off2_eq c) _ _) (slice_half (off2_eq c) _ _) (dev3_eq c) send_sem0 recv_sem0) $$ [HO Hrl L0 Hst]
  · isplitr; · iexact HR
    isplitl [Hrl]; · rw [xpay_s0]; iexact Hrl
    isplitl [L0]; · iexact L0
    isplitl [HO]; · iexact HO
    iexact Hst
  iintro ⟨Hc0, HO⟩
  iapply run_ret
  iapply Hk
  isplitl [HO]; · iexact HO
  isplitl [Hat]; · iexact Hat
  isplitl [L1 L2 L3 L4 L5]
  · isplitl [L1]; · iexact L1
    isplitl [L2]; · iexact L2
    isplitl [L3]; · iexact L3
    isplitl [L4]; · iexact L4
    iexact L5
  isplitl [Hx]; · iexact Hx
  isplitl [Hw]; · iexact Hw
  isplitl [Hl]; · iexact Hl
  isplitl [Hrr]; · rw [xpay_s1]; iexact Hrr
  iexact Hc0

/-- The second transfer, the right half of its own block of the product, and the third transfer. -/
theorem part3 (K : Dev nD × CK → ℕ) (c : Dev nD) (v2 v13 v24 v64 : BitVec 32) (f : cc0_scratch0.ty.Contents (Elt F))
    {Q : PUnit → sProp 𝕄} :
    iprop(records m K ∗ levAts L lv ∗ ow c (owed c [1, 4, 5, 2, 3]) ∗ xpay m c (sk 1) ∗ landing (F := F) 1 c ∗ stok c 1 ∗ (((c : Thread nD τ).loc cc0_stg1_0) ↦{fullShare} wstg m c) ∗ cpt c c 1 fullShare f ∗ landing (F := F) 4 c ∗ stok c 4)
      ⊢ iprop(((ow c (owed c [5, 2, 3]) ∗ crd (F := F) c (sk 1) ∗ (((c : Thread nD τ).loc cc0_stg1_0) ↦{fullShare} wstg m c) ∗ cp m c c 1 fullShare.left ∗ xpay m c (sk 5) ∗ crd (F := F) c (sk 4)) -∗ Q ⟨⟩)
          -∗ run c (k0_part3 xM (Memref.isWhole_whole _) wM (Memref.isWhole_whole _) oM (Memref.isWhole_whole _) cM (Memref.isWhole_whole _) cc0_scratch1 cc0_scratch2 c v2 v13 v24 (k0_pay1 (xstg m c)) v64) Q) := by
  rw [k0_part3_eq_skeleton]; unfold k0_part3_skel
  simp only [semSignalWord, semWaitWord, Prog.lift, Prog.bind_op, Prog.bind_ret, Prog.pure_eq_ret, Prog.bind_assoc, wp_deviceId]
  iintro ⟨#HR, #Hlev, HO, S1, L1, T1, Hw, Hh, L4, T4⟩ Hk
  iapply (wp_transfer m K 1 c [4, 5, 2, 3] (slice_half (off2_eq c) _ _) (slice_half (off2_eq c) _ _) (dev4_eq c) send_sem1 recv_sem1) $$ [S1 L1 HO T1]
  · isplitr; · iexact HR
    isplitl [S1]; · iexact S1
    isplitl [L1]; · iexact L1
    isplitl [HO]; · iexact HO
    iexact T1
  iintro ⟨C1, HO⟩
  iapply (wp_load_w m c hiR) $$ Hw
  iintro Hw
  iapply (wp_load_half c c 1 fullShare f (off3_eq c)) $$ Hh
  iintro Hh
  iapply (wp_store_half (half m) c c 1 f (off3_eq c) (half_one m c).symm) $$ Hh
  iintro Hh
  ihave Hh3 := (cp_open m c c 1) $$ Hh
  icases Hh3 with ⟨Hl, Hrl, Hrr⟩
  iapply (wp_transfer m K 4 c [5, 2, 3] (slice_half (off4_eq c) _ _) (slice_half (off4_eq c) _ _) (dev5_eq c) send_sem4 recv_sem4) $$ [Hrl L4 HO T4]
  · isplitr; · iexact HR
    isplitl [Hrl]; · rw [xpay_s4]; iexact Hrl
    isplitl [L4]; · iexact L4
    isplitl [HO]; · iexact HO
    iexact T4
  iintro ⟨C4, HO⟩
  iapply run_ret
  iapply Hk
  isplitl [HO]; · iexact HO
  isplitl [C1]; · iexact C1
  isplitl [Hw]; · iexact Hw
  isplitl [Hl]; · iexact Hl
  isplitl [Hrr]; · rw [xpay_s5]; iexact Hrr
  iexact C4

/-- The fourth transfer, its own block's softmax pieces, the first arrival and its forwarding. -/
theorem part4 (K : Dev nD × CK → ℕ) (c : Dev nD) (v2 v13 v24 : BitVec 32) (w : S256x4096.Idx → Elt F .f32)
    {Q : (Σ' (v108 : FVec F S256x1 .f32) (v115 : FVec F S256x1 .f32), BitVec 32) → sProp 𝕄} :
    iprop(records m K ∗ levAts L lv ∗ ow c (owed c [5, 2, 3]) ∗ xpay m c (sk 5) ∗ landing (F := F) 5 c ∗ stok c 5 ∗ cwide c c fullShare.left (logits m) ∗ owide c c w ∗ crd (F := F) c (rk 0) ∗ plc (F := F) c (rk 0) 0 ∗ landing (F := F) 2 c ∗ stok c 2)
      ⊢ iprop(((ow c (owed c [3]) ∗ crd (F := F) c (sk 5) ∗ cwide c c fullShare.left (logits m) ∗ owide c c (bexp m c) ∗ plc (F := F) c (rk 0) 1 ∗ cp m c (prv c) 0 fullShare.left ∗ crd (F := F) c (sk 2)) -∗ Q ⟨bmax m c, bsum m c, Scalar.muli v24 4096#32⟩)
          -∗ run c (k0_part4 xM (Memref.isWhole_whole _) wM (Memref.isWhole_whole _) oM (Memref.isWhole_whole _) cM (Memref.isWhole_whole _) cc0_scratch1 cc0_scratch2 c v2 v13 v24) Q) := by
  rw [k0_part4_eq_skeleton]; unfold k0_part4_skel
  simp only [semSignalWord, semWaitWord, Prog.lift, Prog.bind_op, Prog.bind_ret, Prog.pure_eq_ret, Prog.bind_assoc, wp_deviceId]
  iintro ⟨#HR, #Hlev, HO, S5, L5, T5, Hb, Ho, C, P, L2, T2⟩ Hk
  iapply (wp_transfer m K 5 c [2, 3] (slice_half (off4_eq c) _ _) (slice_half (off4_eq c) _ _) (dev6_eq c) send_sem5 recv_sem5) $$ [S5 L5 HO T5]
  · isplitr; · iexact HR
    isplitl [S5]; · iexact S5
    isplitl [L5]; · iexact L5
    isplitl [HO]; · iexact HO
    iexact T5
  iintro ⟨C5, HO⟩
  iapply (wp_load_block m c c fullShare.left (off5_eq c)) $$ Hb
  iintro Hb
  iapply (wp_load_out c c w (off5_eq c)) $$ Ho
  iintro Ho
  iapply (wp_store_out c c w (bexp m c) (off5_eq c)) $$ Ho
  iintro Ho
  iapply (wp_transfer_wait m K (rk 0) c [2, 3] (by decide) recv_sem0 (slice_credit _ _)) $$ [C HO P]
  · isplitr; · iexact HR
    isplitr; · iexact Hlev
    isplitl [C]; · iexact C
    isplitl [HO]; · iexact HO
    iexact P
  iintro ⟨HO, P, G⟩
  ihave G := (Entails.of_eq (xpay_r0 m c)) $$ G
  ihave G2 := (cpt_share c (prv c) 0 fullShare (logits m)).1 $$ G
  icases G2 with ⟨Gl, Gr⟩
  iapply (wp_transfer m K 2 c [3] (slice_half (off6_eq c) _ _) (slice_half (off6_eq c) _ _) (dev7_eq c) send_sem2 recv_sem2) $$ [Gr L2 HO T2]
  · isplitr; · iexact HR
    isplitl [Gr]; · rw [xpay_s2]; iexact Gr
    isplitl [L2]; · iexact L2
    isplitl [HO]; · iexact HO
    iexact T2
  iintro ⟨C2, HO⟩
  iapply (run_ret_eq c (show (⟨k0_pay5 (lblk m c), k0_pay7 (lblk m c), Scalar.muli v24 4096#32⟩ : Σ' (v108 : FVec F S256x1 .f32) (v115 : FVec F S256x1 .f32), BitVec 32) = ⟨bmax m c, bsum m c, Scalar.muli v24 4096#32⟩ from rfl))
  iapply Hk
  isplitl [HO]; · iexact HO
  isplitl [C5]; · iexact C5
  isplitl [Hb]; · iexact Hb
  isplitl [Ho]; · iexact Ho
  isplitl [P]; · iexact P
  isplitl [Gl]; · iexact Gl
  iexact C2

end Cert.KernelIdealProof

end
-- ==== Proof.KernelIdeal.PartsB.lean ====
/-
# The second part of the kernel

The arrivals, the softmax pieces of each block, and every block scaled.
-/
module

public import proofs.«01_k».proof.Proof.KernelIdeal.PartsA

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The second arrival and its forwarding, the third arrival, and the block of the previous device read. -/
theorem part5 (K : Dev nD × CK → ℕ) (c : Dev nD) (v13 v24 v132 : BitVec 32)
    {Q : (Σ' (v158 : BitVec 32) (v161 : FVec F S256x4096 .f32), FVec F S256x1 .f32) → sProp 𝕄} :
    iprop(records m K ∗ levAts L lv ∗ ow c (owed c [3]) ∗ crd (F := F) c (rk 5) ∗ plc (F := F) c (rk 5) 0 ∗ landing (F := F) 3 c ∗ stok c 3 ∗ crd (F := F) c (rk 4) ∗ plc (F := F) c (rk 4) 0 ∗ cp m c (prv c) 0 fullShare.left)
      ⊢ iprop(((ow c (owed c []) ∗ plc (F := F) c (rk 5) 1 ∗ cp m c (nxt c) 1 fullShare.left ∗ crd (F := F) c (sk 3) ∗ plc (F := F) c (rk 4) 1 ∗ cp m c (prv c) 1 fullShare.right ∗ cwide c (prv c) fullShare.left (logits m)) -∗ Q ⟨Scalar.muli v13 4096#32, k0_pay8 (lblk m (prv c)), k0_pay9 (lblk m (prv c))⟩)
          -∗ run c (k0_part5 xM (Memref.isWhole_whole _) wM (Memref.isWhole_whole _) oM (Memref.isWhole_whole _) cM (Memref.isWhole_whole _) cc0_scratch1 cc0_scratch2 c v13 v24 v132) Q) := by
  rw [k0_part5_eq_skeleton]; unfold k0_part5_skel
  simp only [semSignalWord, semWaitWord, Prog.lift, Prog.bind_op, Prog.bind_ret, Prog.pure_eq_ret, Prog.bind_assoc, wp_deviceId]
  iintro ⟨#HR, #Hlev, HO, C5, P5, L3, T3, C4, P4, Hl⟩ Hk
  iapply (wp_transfer_wait m K (rk 5) c [3] (by decide) recv_sem5 (slice_credit _ _)) $$ [C5 HO P5]
  · isplitr; · iexact HR
    isplitr; · iexact Hlev
    isplitl [C5]; · iexact C5
    isplitl [HO]; · iexact HO
    iexact P5
  iintro ⟨HO, P5, G⟩
  ihave G := (Entails.of_eq (xpay_r5 m c)) $$ G
  ihave G2 := (cpt_share c (nxt c) 1 fullShare (logits m)).1 $$ G
  icases G2 with ⟨Gl, Gr⟩
  iapply (wp_transfer m K 3 c [] (slice_half (off7a_eq c) _ _) (slice_half (off7a_eq c) _ _) (dev8_eq c) send_sem3 recv_sem3) $$ [Gr L3 HO T3]
  · isplitr; · iexact HR
    isplitl [Gr]; · rw [xpay_s3]; iexact Gr
    isplitl [L3]; · iexact L3
    isplitl [HO]; · iexact HO
    iexact T3
  iintro ⟨C3, HO⟩
  iapply (wp_transfer_wait m K (rk 4) c [] (by simp) recv_sem4 (slice_credit _ _)) $$ [C4 HO P4]
  · isplitr; · iexact HR
    isplitr; · iexact Hlev
    isplitl [C4]; · iexact C4
    isplitl [HO]; · iexact HO
    iexact P4
  iintro ⟨HO, P4, G⟩
  ihave G := (Entails.of_eq (xpay_r4 m c)) $$ G
  ihave G2 := (cpt_share c (prv c) 1 fullShare (logits m)).1 $$ G
  icases G2 with ⟨Ml, Mr⟩
  ihave Hb := (cwide_split c (prv c) fullShare.left (logits m)).2 $$ [Hl Ml]
  · isplitl [Hl] <;> iassumption
  iapply (wp_load_block m c (prv c) fullShare.left (off9_eq c)) $$ Hb
  iintro Hb
  iapply run_ret
  iapply Hk
  isplitl [HO]; · iexact HO
  isplitl [P5]; · iexact P5
  isplitl [Gl]; · iexact Gl
  isplitl [C3]; · iexact C3
  isplitl [P4]; · iexact P4
  isplitl [Mr]; · iexact Mr
  iexact Hb

/-- The softmax pieces of the previous device's block, the next device's block completed and its pieces, and the first half of the opposite block. -/
theorem part6 (K : Dev nD × CK → ℕ) (c : Dev nD) (v13 v24 v35 v158 : BitVec 32) (w w' : S256x4096.Idx → Elt F .f32)
    {Q : (Σ' (v170 : FVec F S256x1 .f32) (v183 : FVec F S256x1 .f32) (v190 : FVec F S256x1 .f32), BitVec 32) → sProp 𝕄} :
    iprop(records m K ∗ levAts L lv ∗ ow c (owed c []) ∗ owide c (prv c) w ∗ crd (F := F) c (rk 1) ∗ plc (F := F) c (rk 1) 0 ∗ cp m c (nxt c) 1 fullShare.left ∗ owide c (nxt c) w' ∗ crd (F := F) c (rk 2) ∗ plc (F := F) c (rk 2) 0)
      ⊢ iprop(((ow c (owed c []) ∗ owide c (prv c) (bexp m (prv c)) ∗ plc (F := F) c (rk 1) 1 ∗ cp m c (nxt c) 0 fullShare.right ∗ cwide c (nxt c) fullShare.left (logits m) ∗ owide c (nxt c) (bexp m (nxt c)) ∗ plc (F := F) c (rk 2) 1 ∗ cp m c (opp c) 0 fullShare) -∗ Q ⟨bsum m (prv c), bmax m (nxt c), bsum m (nxt c), 4096#32⟩)
          -∗ run c (k0_part6 xM (Memref.isWhole_whole _) wM (Memref.isWhole_whole _) oM (Memref.isWhole_whole _) cM (Memref.isWhole_whole _) cc0_scratch1 cc0_scratch2 c v13 v24 v35 v158 (k0_pay8 (lblk m (prv c))) (k0_pay9 (lblk m (prv c)))) Q) := by
  rw [k0_part6_eq_skeleton]; unfold k0_part6_skel
  simp only [semSignalWord, semWaitWord, Prog.lift, Prog.bind_op, Prog.bind_ret, Prog.pure_eq_ret, Prog.bind_assoc, wp_deviceId]
  iintro ⟨#HR, #Hlev, HO, Ho, C1, P1, Hl, Ho2, C2, P2⟩ Hk
  iapply (wp_load_out c (prv c) w (off9_eq c)) $$ Ho
  iintro Ho
  iapply (wp_store_out c (prv c) w (bexp m (prv c)) (off9_eq c)) $$ Ho
  iintro Ho
  iapply (wp_transfer_wait m K (rk 1) c [] (by simp) recv_sem1 (slice_credit _ _)) $$ [C1 HO P1]
  · isplitr; · iexact HR
    isplitr; · iexact Hlev
    isplitl [C1]; · iexact C1
    isplitl [HO]; · iexact HO
    iexact P1
  iintro ⟨HO, P1, G⟩
  ihave G := (Entails.of_eq (xpay_r1 m c)) $$ G
  ihave G2 := (cpt_share c (nxt c) 0 fullShare (logits m)).1 $$ G
  icases G2 with ⟨Ml, Mr⟩
  ihave Hb := (cwide_split c (nxt c) fullShare.left (logits m)).2 $$ [Ml Hl]
  · isplitl [Ml] <;> iassumption
  iapply (wp_load_block m c (nxt c) fullShare.left (off11a_eq c)) $$ Hb
  iintro Hb
  iapply (wp_load_out c (nxt c) w' (off11a_eq c)) $$ Ho2
  iintro Ho2
  iapply (wp_store_out c (nxt c) w' (bexp m (nxt c)) (off11a_eq c)) $$ Ho2
  iintro Ho2
  iapply (wp_transfer_wait m K (rk 2) c [] (by simp) recv_sem2 (slice_credit _ _)) $$ [C2 HO P2]
  · isplitr; · iexact HR
    isplitr; · iexact Hlev
    isplitl [C2]; · iexact C2
    isplitl [HO]; · iexact HO
    iexact P2
  iintro ⟨HO, P2, G⟩
  ihave G := (Entails.of_eq (xpay_r2 m c)) $$ G
  iapply (run_ret_eq c (show (⟨k0_pay11 (k0_pay8 (lblk m (prv c))) (k0_pay9 (lblk m (prv c))), k0_pay13 (lblk m (nxt c)), k0_pay15 (lblk m (nxt c)), 4096#32⟩ : Σ' (v170 : FVec F S256x1 .f32) (v183 : FVec F S256x1 .f32) (v190 : FVec F S256x1 .f32), BitVec 32) = ⟨bsum m (prv c), bmax m (nxt c), bsum m (nxt c), 4096#32⟩ from rfl))
  iapply Hk
  isplitl [HO]; · iexact HO
  isplitl [Ho]; · iexact Ho
  isplitl [P1]; · iexact P1
  isplitl [Mr]; · iexact Mr
  isplitl [Hb]; · iexact Hb
  isplitl [Ho2]; · iexact Ho2
  isplitl [P2]; · iexact P2
  iexact G

/-- The opposite block completed, its softmax pieces, and the factors every block is to be scaled by. -/
theorem part7 (K : Dev nD × CK → ℕ) (c : Dev nD) (v2 v13 v24 v35 v : BitVec 32) (w : S256x4096.Idx → Elt F .f32)
    {Q : (Σ' (v223 : FVec F S256x1 .f32) (v225 : FVec F S256x1 .f32) (v227 : FVec F S256x1 .f32) (v229 : FVec F S256x1 .f32) (v238 : FVec F S256x1 .f32) (v239 : BitVec 32), BitVec 32) → sProp 𝕄} :
    iprop(records m K ∗ levAts L lv ∗ ow c (owed c []) ∗ crd (F := F) c (rk 3) ∗ plc (F := F) c (rk 3) 0 ∗ cp m c (opp c) 0 fullShare ∗ owide c (opp c) w)
      ⊢ iprop(((ow c (owed c []) ∗ plc (F := F) c (rk 3) 1 ∗ cwide c (opp c) fullShare (logits m) ∗ owide c (opp c) (bexp m (opp c))) -∗ Q ⟨fac m c c, fac m c (prv c), fac m c (nxt c), fac m c (opp c), rec m c, Scalar.muli v2 4096#32, Scalar.muli v13 4096#32⟩)
          -∗ run c (k0_part7 xM (Memref.isWhole_whole _) wM (Memref.isWhole_whole _) oM (Memref.isWhole_whole _) cM (Memref.isWhole_whole _) cc0_scratch1 cc0_scratch2 c v2 v13 v24 v35 (bmax m c) (bsum m c) (k0_pay9 (lblk m (prv c))) (bsum m (prv c)) (bmax m (nxt c)) (bsum m (nxt c)) v) Q) := by
  rw [k0_part7_eq_skeleton]; unfold k0_part7_skel
  simp only [semSignalWord, semWaitWord, Prog.lift, Prog.bind_op, Prog.bind_ret, Prog.pure_eq_ret, Prog.bind_assoc, wp_deviceId]
  iintro ⟨#HR, #Hlev, HO, C, P, Hl, Ho⟩ Hk
  iapply (wp_transfer_wait m K (rk 3) c [] (by simp) recv_sem3 (slice_credit _ _)) $$ [C HO P]
  · isplitr; · iexact HR
    isplitr; · iexact Hlev
    isplitl [C]; · iexact C
    isplitl [HO]; · iexact HO
    iexact P
  iintro ⟨HO, P, G⟩
  ihave G := (Entails.of_eq (xpay_r3 m c)) $$ G
  ihave Hb := (cwide_split c (opp c) fullShare (logits m)).2 $$ [Hl G]
  · isplitl [Hl] <;> iassumption
  iapply (wp_load_block m c (opp c) fullShare (off11b_eq c)) $$ Hb
  iintro Hb
  iapply (wp_load_out c (opp c) w (off11b_eq c)) $$ Ho
  iintro Ho
  iapply (wp_store_out c (opp c) w (bexp m (opp c)) (off11b_eq c)) $$ Ho
  iintro Ho
  iapply (run_ret_eq c (show (⟨k0_pay20 (bmax m c) (k0_pay9 (lblk m (prv c))) (bmax m (nxt c)) (lblk m (opp c)), k0_pay21 (bmax m c) (k0_pay9 (lblk m (prv c))) (bmax m (nxt c)) (lblk m (opp c)), k0_pay22 (bmax m c) (k0_pay9 (lblk m (prv c))) (bmax m (nxt c)) (lblk m (opp c)), k0_pay23 (bmax m c) (k0_pay9 (lblk m (prv c))) (bmax m (nxt c)) (lblk m (opp c)), k0_pay24 (bmax m c) (bsum m c) (k0_pay9 (lblk m (prv c))) (bsum m (prv c)) (bmax m (nxt c)) (bsum m (nxt c)) (lblk m (opp c)), Scalar.muli v2 4096#32, Scalar.muli v13 4096#32⟩ : Σ' (v223 : FVec F S256x1 .f32) (v225 : FVec F S256x1 .f32) (v227 : FVec F S256x1 .f32) (v229 : FVec F S256x1 .f32) (v238 : FVec F S256x1 .f32) (v239 : BitVec 32), BitVec 32) = ⟨fac m c c, fac m c (prv c), fac m c (nxt c), fac m c (opp c), rec m c, Scalar.muli v2 4096#32, Scalar.muli v13 4096#32⟩ from rfl))
  iapply Hk
  isplitl [HO]; · iexact HO
  isplitl [P]; · iexact P
  isplitl [Hb]; · iexact Hb
  iexact Ho

/-- Every block scaled, and the first transfer's source back. -/
theorem part8 (K : Dev nD × CK → ℕ) (c : Dev nD) (v24 v35 v239 v240 : BitVec 32)
    {Q : PUnit → sProp 𝕄} :
    iprop(records m K ∗ levAts L lv ∗ ow c (owed c []) ∗ owide c c (bexp m c) ∗ owide c (prv c) (bexp m (prv c)) ∗ owide c (nxt c) (bexp m (nxt c)) ∗ owide c (opp c) (bexp m (opp c)) ∗ crd (F := F) c (sk 0) ∗ plc (F := F) c (sk 0) 0)
      ⊢ iprop(((ow c (owed c []) ∗ owide c c (oblk m c c) ∗ owide c (prv c) (oblk m c (prv c)) ∗ owide c (nxt c) (oblk m c (nxt c)) ∗ owide c (opp c) (oblk m c (opp c)) ∗ plc (F := F) c (sk 0) 1 ∗ xpay m c (sk 0)) -∗ Q ⟨⟩)
          -∗ run c (k0_part8 xM (Memref.isWhole_whole _) wM (Memref.isWhole_whole _) oM (Memref.isWhole_whole _) cM (Memref.isWhole_whole _) cc0_scratch1 cc0_scratch2 c v24 v35 (fac m c c) (fac m c (prv c)) (fac m c (nxt c)) (fac m c (opp c)) (rec m c) v239 v240) Q) := by
  rw [k0_part8_eq_skeleton]; unfold k0_part8_skel
  simp only [semSignalWord, semWaitWord, Prog.lift, Prog.bind_op, Prog.bind_ret, Prog.pure_eq_ret, Prog.bind_assoc, wp_deviceId]
  iintro ⟨#HR, #Hlev, HO, H0, H1, H2, H3, C, P⟩ Hk
  iapply (wp_load_out c c (bexp m c) (off5_eq c)) $$ H0
  iintro H0
  iapply (wp_load_out c c (bexp m c) (off5_eq c)) $$ H0
  iintro H0
  iapply (wp_store_out c c (bexp m c) (oblk m c c) (off5_eq c)) $$ H0
  iintro H0
  iapply (wp_load_out c (prv c) (bexp m (prv c)) (off9_eq c)) $$ H1
  iintro H1
  iapply (wp_load_out c (prv c) (bexp m (prv c)) (off9_eq c)) $$ H1
  iintro H1
  iapply (wp_store_out c (prv c) (bexp m (prv c)) (oblk m c (prv c)) (off9_eq c)) $$ H1
  iintro H1
  iapply (wp_load_out c (nxt c) (bexp m (nxt c)) (off11a_eq c)) $$ H2
  iintro H2
  iapply (wp_load_out c (nxt c) (bexp m (nxt c)) (off11a_eq c)) $$ H2
  iintro H2
  iapply (wp_store_out c (nxt c) (bexp m (nxt c)) (oblk m c (nxt c)) (off11a_eq c)) $$ H2
  iintro H2
  iapply (wp_load_out c (opp c) (bexp m (opp c)) (off11b_eq c)) $$ H3
  iintro H3
  iapply (wp_load_out c (opp c) (bexp m (opp c)) (off11b_eq c)) $$ H3
  iintro H3
  iapply (wp_store_out c (opp c) (bexp m (opp c)) (oblk m c (opp c)) (off11b_eq c)) $$ H3
  iintro H3
  iapply (wp_transfer_wait m K (sk 0) c [] (by simp) send_sem0 (slice_credit _ _)) $$ [C HO P]
  · isplitr; · iexact HR
    isplitr; · iexact Hlev
    isplitl [C]; · iexact C
    isplitl [HO]; · iexact HO
    iexact P
  iintro ⟨HO, P, G⟩
  iapply run_ret
  iapply Hk
  isplitl [HO]; · iexact HO
  isplitl [H0]; · iexact H0
  isplitl [H1]; · iexact H1
  isplitl [H2]; · iexact H2
  isplitl [H3]; · iexact H3
  isplitl [P]; · iexact P
  iexact G

end Cert.KernelIdealProof

end
-- ==== Proof.KernelIdeal.Body.lean ====
/-
# The whole kernel at one device

From the rights a device starts with, the kernel runs to its end: the result's buffer holds the device's softmax, the communication
buffer the product, and every counter is zero again.
-/
module

public import proofs.«01_k».proof.Proof.KernelIdeal.PartsB

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem sep6 (P : Fin 6 → sProp 𝕄) : bigSep Finset.univ P = iprop(P 0 ∗ P 1 ∗ P 2 ∗ P 3 ∗ P 4 ∗ P 5) := by
  rw [bigSep_univ_eq_bigSepL [0, 1, 2, 3, 4, 5] (by decide) (by decide)]; rfl
omit [FloatOps F] in
theorem sep12 (P : Fin 12 → sProp 𝕄) : bigSep Finset.univ P = iprop(P (sk 0) ∗ P (sk 1) ∗ P (sk 2) ∗ P (sk 3) ∗ P (sk 4) ∗ P (sk 5) ∗ P (rk 0) ∗ P (rk 1) ∗ P (rk 2) ∗ P (rk 3) ∗ P (rk 4) ∗ P (rk 5)) := by
  rw [bigSep_univ_eq_bigSepL [0, 1, 2, 3, 4, 5, 6, 7, 8, 9, 10, 11] (by decide) (by decide)]; rfl

theorem bar_inv (K : Dev nD × CK → ℕ) (c : Dev nD) : records m K ⊢ cellInv ER (proto m) (K (c, .inl ())) (barCell c) := by
  iintro #HR
  ihave H := (records_bar m K c) $$ HR
  icases H with ⟨#H, -⟩
  iexact H
theorem x_inv (K : Dev nD × CK → ℕ) (c : Dev nD) (k : Fin 12) : records m K ⊢ cellInv ER (proto m) (K (c, .inr k)) (xCell c k) := by
  iintro #HR
  ihave H := (records_x m K c k) $$ HR
  icases H with ⟨#H, -⟩
  iexact H

/-! ## What the barrier's signals hand over -/

omit [FloatOps F] in
/-- The previous device gets the block and the half-block it will write to. -/
theorem give_prv (c : Dev nD) (f : cc0_scratch0.ty.Contents (Elt F)) :
    iprop(cwide c (prv c) fullShare f ∗ cpt c (opp c) 0 fullShare f) ⊢ barPay (F := F) (prv c) true := by
  rw [barPay_true]
  unfold landing
  rw [show tgt 0 (prv c) = c from nxt_prv c, show tgt 2 (prv c) = c from nxt_prv c, show tgt 4 (prv c) = c from nxt_prv c,
    show xblk (sk 2) (prv c) = opp c from prv_prv c]
  iintro ⟨Hb, Ho⟩
  ihave Hb := (cwide_split c (prv c) fullShare f).1 $$ Hb
  icases Hb with ⟨H0, H1⟩
  isplitl [H0]; · iexists f; iexact H0
  isplitl [Ho]; · iexists f; iexact Ho
  iexists f; iexact H1

omit [FloatOps F] in
/-- The next device gets the block and the half-block it will write to. -/
theorem give_nxt (c : Dev nD) (f : cc0_scratch0.ty.Contents (Elt F)) :
    iprop(cwide c (nxt c) fullShare f ∗ cpt c (opp c) 1 fullShare f) ⊢ barPay (F := F) (nxt c) false := by
  rw [barPay_false]
  unfold landing
  rw [show tgt 1 (nxt c) = c from prv_nxt c, show tgt 3 (nxt c) = c from prv_nxt c, show tgt 5 (nxt c) = c from prv_nxt c,
    show xblk (sk 3) (nxt c) = opp c from nxt_nxt c]
  iintro ⟨Hb, Ho⟩
  ihave Hb := (cwide_split c (nxt c) fullShare f).1 $$ Hb
  icases Hb with ⟨H0, H1⟩
  isplitl [H0]; · iexists f; iexact H0
  isplitl [Ho]; · iexists f; iexact Ho
  iexists f; iexact H1

/-! ## The communication buffer whole again -/

omit [FloatOps F] in
theorem side_join (c b : Dev nD) (f : cc0_scratch0.ty.Contents (Elt F)) :
    iprop(cwide c b fullShare.left f ∗ cpt c b 0 fullShare.right f ∗ cpt c b 1 fullShare.right f) ⊢ (cwide c b fullShare f : sProp 𝕄) := by
  iintro ⟨Hw, H0, H1⟩
  ihave Hw := (cwide_split c b fullShare.left f).1 $$ Hw
  icases Hw with ⟨W0, W1⟩
  iapply (cwide_split c b fullShare f).2
  isplitl [W0 H0]
  · iapply (cpt_share c b 0 fullShare f).2; isplitl [W0] <;> iassumption
  iapply (cpt_share c b 1 fullShare f).2; isplitl [W1] <;> iassumption

omit [FloatOps F] in
theorem own_join (c b : Dev nD) (f : cc0_scratch0.ty.Contents (Elt F)) :
    iprop(cwide c b fullShare.left f ∗ (cpt c b 0 fullShare.right.left f ∗ cpt c b 0 fullShare.right.right f) ∗ (cpt c b 1 fullShare.right.left f ∗ cpt c b 1 fullShare.right.right f))
      ⊢ (cwide c b fullShare f : sProp 𝕄) :=
  (sep_mono_right (BI.sep_mono (cpt_share c b 0 fullShare.right f).2 (cpt_share c b 1 fullShare.right f).2)).trans (side_join c b f)

/-- The device's number and the words computed from it. -/
theorem part1 (c : Dev nD) {Q : (Σ' (d0 : Dev nD) (v2 : BitVec 32) (v13 : BitVec 32) (v24 : BitVec 32), BitVec 32) → sProp 𝕄} :
    iprop(∀ v2 v13 v24 v35, Q ⟨c, v2, v13, v24, v35⟩) ⊢ run c (k0_part1 xM (Memref.isWhole_whole _) wM (Memref.isWhole_whole _) oM (Memref.isWhole_whole _) cM (Memref.isWhole_whole _) cc0_scratch1 cc0_scratch2) Q := by
  rw [k0_part1_eq_skeleton]; unfold k0_part1_skel
  simp only [semSignalWord, semWaitWord, Prog.lift, Prog.bind_op, Prog.bind_ret, Prog.pure_eq_ret, Prog.bind_assoc, wp_deviceId]
  iintro Hk
  iapply run_ret
  iapply Hk

/-- What device `c` enters the kernel with. -/
def entry (K : Dev nD × CK → ℕ) (c : Dev nD) : sProp 𝕄 :=
  iprop(records m K ∗ levAts L lv ∗ (dutyTok ER (barCell (prv c)) 0 true ∗ dutyTok ER (barCell (nxt c)) 0 false ∗ bigSep Finset.univ (fun i : Fin 6 => stok (F := F) c i))
    ∗ cred (tallyAt (barCell c) () 2) ∗ bigSep Finset.univ (fun i : Fin 6 => crd (F := F) c (rk i))
    ∗ atPos ER (barCell c) 0 ∅ 0 ∗ bigSep Finset.univ (fun k : Fin 12 => plc (F := F) c k 0))

/-- The kernel at device `c`: it leaves its share of the softmax in the result's buffer, the product in the communication buffer,
    and every counter at zero. -/
theorem body_run (K : Dev nD × CK → ℕ) (c : Dev nD) {Q : PUnit → sProp 𝕄} :
    iprop(entry m K c ∗ ow c (owed₀ c) ∗ (∃ f : cc0_scratch0.ty.Contents (Elt F), (((c : Thread nD τ).loc cc0_scratch0) ↦{fullShare} f)) ∗ (((c : Thread nD τ).loc cc0_stg0_0) ↦{fullShare} xstg m c) ∗ (((c : Thread nD τ).loc cc0_stg1_0) ↦{fullShare} wstg m c) ∗ (∃ f : cc0_stg2_0.ty.Contents (Elt F), (((c : Thread nD τ).loc cc0_stg2_0) ↦{fullShare} f)))
      ⊢ iprop(((ow c 0 ∗ (((c : Thread nD τ).loc cc0_scratch0) ↦{fullShare} logits m) ∗ semVal (barCell c) 0 ∗ bigSep Finset.univ (fun k : Fin 12 => semVal (xCell c k) 0)
            ∗ (((c : Thread nD τ).loc cc0_stg0_0) ↦{fullShare} xstg m c) ∗ (((c : Thread nD τ).loc cc0_stg1_0) ↦{fullShare} wstg m c) ∗ (((c : Thread nD τ).loc cc0_stg2_0) ↦{fullShare} outAt m c)) -∗ Q ⟨⟩)
          -∗ run c (cc0_body xM (Memref.isWhole_whole _) wM (Memref.isWhole_whole _) oM (Memref.isWhole_whole _) cM (Memref.isWhole_whole _) cc0_scratch1 cc0_scratch2) Q) := by
  rw [cc0_body_eq_skeleton]; unfold cc0_body_skel entry
  rw [sep6, sep6, sep12]
  iintro ⟨⟨#HR, #Hlev, ⟨Tb1, Tb2, T0, T1, T2, T3, T4, T5⟩, Cb, ⟨Cr0, Cr1, Cr2, Cr3, Cr4, Cr5⟩, Hbar, ⟨Ps0, Ps1, Ps2, Ps3, Ps4, Ps5, Pr0, Pr1, Pr2, Pr3, Pr4, Pr5⟩⟩, HO, ⟨%f, Hcomm⟩, Hx, Hw, ⟨%g, Hout⟩⟩ Hk
  ihave Hcomm := (comm_blocks c f).1 $$ Hcomm
  icases Hcomm with ⟨Hc, Hp, Hn, Hq⟩
  ihave Hc := (cwide_split c c fullShare f).1 $$ Hc
  icases Hc with ⟨Hc0, Hc1⟩
  ihave Hq := (cwide_split c (opp c) fullShare f).1 $$ Hq
  icases Hq with ⟨Hq0, Hq1⟩
  ihave G1 := (give_prv c f) $$ [Hp Hq0]
  · isplitl [Hp] <;> iassumption
  ihave G2 := (give_nxt c f) $$ [Hn Hq1]
  · isplitl [Hn] <;> iassumption
  ihave Hout := (out_open c g) $$ Hout
  icases Hout with ⟨⟨%w0, O0⟩, ⟨%w1, O1⟩, ⟨%w2, O2⟩, ⟨%w3, O3⟩⟩
  rw [run_bind]
  iapply (part1 c)
  iintro %v2 %v13 %v24 %v35
  try dsimp only
  rw [run_bind]
  iapply (part2 m K c v2 v13 v24 f) $$ [HO Tb1 G1 Tb2 G2 Cb Hbar Hx Hw Hc0 T0]
  · isplitr; · iexact HR
    isplitr; · iexact Hlev
    isplitl [HO]; · iexact HO
    isplitl [Tb1]; · iexact Tb1
    isplitl [G1]; · iexact G1
    isplitl [Tb2]; · iexact Tb2
    isplitl [G2]; · iexact G2
    isplitl [Cb]; · iexact Cb
    isplitl [Hbar]; · iexact Hbar
    isplitl [Hx]; · iexact Hx
    isplitl [Hw]; · iexact Hw
    isplitl [Hc0]; · iexact Hc0
    iexact T0
  iintro ⟨HO, Hbar, ⟨L1, L2, L3, L4, L5⟩, Hx, Hw, Hl0, S1, Cs0⟩
  try dsimp only
  rw [run_bind]
  iapply (part3 m K c v2 v13 v24 _ f) $$ [HO S1 L1 T1 Hw Hc1 L4 T4]
  · isplitr; · iexact HR
    isplitr; · iexact Hlev
    isplitl [HO]; · iexact HO
    isplitl [S1]; · iexact S1
    isplitl [L1]; · iexact L1
    isplitl [T1]; · iexact T1
    isplitl [Hw]; · iexact Hw
    isplitl [Hc1]; · iexact Hc1
    isplitl [L4]; · iexact L4
    iexact T4
  iintro ⟨HO, Cs1, Hw, Hl1, S5, Cs4⟩
  try dsimp only
  ihave Hc := (cwide_split c c fullShare.left (logits m)).2 $$ [Hl0 Hl1]
  · isplitl [Hl0] <;> iassumption
  rw [run_bind]
  iapply (part4 m K c v2 v13 v24 w0) $$ [HO S5 L5 T5 Hc O0 Cr0 Pr0 L2 T2]
  · isplitr; · iexact HR
    isplitr; · iexact Hlev
    isplitl [HO]; · iexact HO
    isplitl [S5]; · iexact S5
    isplitl [L5]; · iexact L5
    isplitl [T5]; · iexact T5
    isplitl [Hc]; · iexact Hc
    isplitl [O0]; · iexact O0
    isplitl [Cr0]; · iexact Cr0
    isplitl [Pr0]; · iexact Pr0
    isplitl [L2]; · iexact L2
    iexact T2
  iintro ⟨HO, Cs5, Hc, O0, Pr0, Hp0, Cs2⟩
  try dsimp only
  rw [run_bind]
  iapply (part5 m K c v13 v24 _) $$ [HO Cr5 Pr5 L3 T3 Cr4 Pr4 Hp0]
  · isplitr; · iexact HR
    isplitr; · iexact Hlev
    isplitl [HO]; · iexact HO
    isplitl [Cr5]; · iexact Cr5
    isplitl [Pr5]; · iexact Pr5
    isplitl [L3]; · iexact L3
    isplitl [T3]; · iexact T3
    isplitl [Cr4]; · iexact Cr4
    isplitl [Pr4]; · iexact Pr4
    iexact Hp0
  iintro ⟨HO, Pr5, Hn1, Cs3, Pr4, Hp1, Hp⟩
  try dsimp only
  rw [run_bind]
  iapply (part6 m K c v13 v24 v35 _ w1 w2) $$ [HO O1 Cr1 Pr1 Hn1 O2 Cr2 Pr2]
  · isplitr; · iexact HR
    isplitr; · iexact Hlev
    isplitl [HO]; · iexact HO
    isplitl [O1]; · iexact O1
    isplitl [Cr1]; · iexact Cr1
    isplitl [Pr1]; · iexact Pr1
    isplitl [Hn1]; · iexact Hn1
    isplitl [O2]; · iexact O2
    isplitl [Cr2]; · iexact Cr2
    iexact Pr2
  iintro ⟨HO, O1, Pr1, Hn0, Hn, O2, Pr2, Hq0⟩
  try dsimp only
  rw [run_bind]
  iapply (part7 m K c v2 v13 v24 v35 _ w3) $$ [HO Cr3 Pr3 Hq0 O3]
  · isplitr; · iexact HR
    isplitr; · iexact Hlev
    isplitl [HO]; · iexact HO
    isplitl [Cr3]; · iexact Cr3
    isplitl [Pr3]; · iexact Pr3
    isplitl [Hq0]; · iexact Hq0
    iexact O3
  iintro ⟨HO, Pr3, Hq, O3⟩
  try dsimp only
  rw [run_bind]
  iapply (part8 m K c v24 v35 _ _) $$ [HO O0 O1 O2 O3 Cs0 Ps0]
  · isplitr; · iexact HR
    isplitr; · iexact Hlev
    isplitl [HO]; · iexact HO
    isplitl [O0]; · iexact O0
    isplitl [O1]; · iexact O1
    isplitl [O2]; · iexact O2
    isplitl [O3]; · iexact O3
    isplitl [Cs0]; · iexact Cs0
    iexact Ps0
  iintro ⟨HO, O0, O1, O2, O3, Ps0, S0⟩
  try dsimp only
  simp only [Prog.lift, Prog.bind_op, Prog.bind_ret, Prog.pure_eq_ret, Prog.bind_assoc]
  iapply (wp_transfer_wait m K (sk 1) c [] (by simp) send_sem1 (slice_credit _ _)) $$ [Cs1 HO Ps1]
  · isplitr; · iexact HR
    isplitr; · iexact Hlev
    isplitl [Cs1]; · iexact Cs1
    isplitl [HO]; · iexact HO
    iexact Ps1
  iintro ⟨HO, Ps1, S1⟩
  iapply (wp_transfer_wait m K (sk 4) c [] (by simp) send_sem4 (slice_credit _ _)) $$ [Cs4 HO Ps4]
  · isplitr; · iexact HR
    isplitr; · iexact Hlev
    isplitl [Cs4]; · iexact Cs4
    isplitl [HO]; · iexact HO
    iexact Ps4
  iintro ⟨HO, Ps4, S4⟩
  iapply (wp_transfer_wait m K (sk 5) c [] (by simp) send_sem5 (slice_credit _ _)) $$ [Cs5 HO Ps5]
  · isplitr; · iexact HR
    isplitr; · iexact Hlev
    isplitl [Cs5]; · iexact Cs5
    isplitl [HO]; · iexact HO
    iexact Ps5
  iintro ⟨HO, Ps5, S5⟩
  iapply (wp_transfer_wait m K (sk 2) c [] (by simp) send_sem2 (slice_credit _ _)) $$ [Cs2 HO Ps2]
  · isplitr; · iexact HR
    isplitr; · iexact Hlev
    isplitl [Cs2]; · iexact Cs2
    isplitl [HO]; · iexact HO
    iexact Ps2
  iintro ⟨HO, Ps2, S2⟩
  iapply (wp_transfer_wait m K (sk 3) c [] (by simp) send_sem3 (slice_credit _ _)) $$ [Cs3 HO Ps3]
  · isplitr; · iexact HR
    isplitr; · iexact Hlev
    isplitl [Cs3]; · iexact Cs3
    isplitl [HO]; · iexact HO
    iexact Ps3
  iintro ⟨HO, Ps3, S3⟩
  imod (Rounds.cell_close ER (proto m) (Set.mem_univ (K (c, .inl ()))) (fun h => h) (R := 1) (duties_later m (barCell c))) $$ [Hbar] with Zb
  · isplitr; · iapply (bar_inv m K c); iexact HR
    iexact Hbar
  imod (Rounds.cell_close ER (proto m) (Set.mem_univ (K (c, .inr (sk 0)))) (fun h => h) (R := 1) (duties_later m (xCell c (sk 0)))) $$ [Ps0] with Zs0
  · isplitr; · iapply (x_inv m K c (sk 0)); iexact HR
    iexact Ps0
  imod (Rounds.cell_close ER (proto m) (Set.mem_univ (K (c, .inr (sk 1)))) (fun h => h) (R := 1) (duties_later m (xCell c (sk 1)))) $$ [Ps1] with Zs1
  · isplitr; · iapply (x_inv m K c (sk 1)); iexact HR
    iexact Ps1
  imod (Rounds.cell_close ER (proto m) (Set.mem_univ (K (c, .inr (sk 2)))) (fun h => h) (R := 1) (duties_later m (xCell c (sk 2)))) $$ [Ps2] with Zs2
  · isplitr; · iapply (x_inv m K c (sk 2)); iexact HR
    iexact Ps2
  imod (Rounds.cell_close ER (proto m) (Set.mem_univ (K (c, .inr (sk 3)))) (fun h => h) (R := 1) (duties_later m (xCell c (sk 3)))) $$ [Ps3] with Zs3
  · isplitr; · iapply (x_inv m K c (sk 3)); iexact HR
    iexact Ps3
  imod (Rounds.cell_close ER (proto m) (Set.mem_univ (K (c, .inr (sk 4)))) (fun h => h) (R := 1) (duties_later m (xCell c (sk 4)))) $$ [Ps4] with Zs4
  · isplitr; · iapply (x_inv m K c (sk 4)); iexact HR
    iexact Ps4
  imod (Rounds.cell_close ER (proto m) (Set.mem_univ (K (c, .inr (sk 5)))) (fun h => h) (R := 1) (duties_later m (xCell c (sk 5)))) $$ [Ps5] with Zs5
  · isplitr; · iapply (x_inv m K c (sk 5)); iexact HR
    iexact Ps5
  imod (Rounds.cell_close ER (proto m) (Set.mem_univ (K (c, .inr (rk 0)))) (fun h => h) (R := 1) (duties_later m (xCell c (rk 0)))) $$ [Pr0] with Zr0
  · isplitr; · iapply (x_inv m K c (rk 0)); iexact HR
    iexact Pr0
  imod (Rounds.cell_close ER (proto m) (Set.mem_univ (K (c, .inr (rk 1)))) (fun h => h) (R := 1) (duties_later m (xCell c (rk 1)))) $$ [Pr1] with Zr1
  · isplitr; · iapply (x_inv m K c (rk 1)); iexact HR
    iexact Pr1
  imod (Rounds.cell_close ER (proto m) (Set.mem_univ (K (c, .inr (rk 2)))) (fun h => h) (R := 1) (duties_later m (xCell c (rk 2)))) $$ [Pr2] with Zr2
  · isplitr; · iapply (x_inv m K c (rk 2)); iexact HR
    iexact Pr2
  imod (Rounds.cell_close ER (proto m) (Set.mem_univ (K (c, .inr (rk 3)))) (fun h => h) (R := 1) (duties_later m (xCell c (rk 3)))) $$ [Pr3] with Zr3
  · isplitr; · iapply (x_inv m K c (rk 3)); iexact HR
    iexact Pr3
  imod (Rounds.cell_close ER (proto m) (Set.mem_univ (K (c, .inr (rk 4)))) (fun h => h) (R := 1) (duties_later m (xCell c (rk 4)))) $$ [Pr4] with Zr4
  · isplitr; · iapply (x_inv m K c (rk 4)); iexact HR
    iexact Pr4
  imod (Rounds.cell_close ER (proto m) (Set.mem_univ (K (c, .inr (rk 5)))) (fun h => h) (R := 1) (duties_later m (xCell c (rk 5)))) $$ [Pr5] with Zr5
  · isplitr; · iapply (x_inv m K c (rk 5)); iexact HR
    iexact Pr5
  ihave S0 := (Entails.of_eq (xpay_s0 m c)) $$ S0
  ihave S1 := (Entails.of_eq (xpay_s1 m c)) $$ S1
  ihave S2 := (Entails.of_eq (xpay_s2 m c)) $$ S2
  ihave S3 := (Entails.of_eq (xpay_s3 m c)) $$ S3
  ihave S4 := (Entails.of_eq (xpay_s4 m c)) $$ S4
  ihave S5 := (Entails.of_eq (xpay_s5 m c)) $$ S5
  ihave Hc := (own_join c c (logits m)) $$ [Hc S0 S1 S4 S5]
  · isplitl [Hc]; · iexact Hc
    isplitl [S0 S1]
    · isplitl [S0] <;> iassumption
    isplitl [S4] <;> iassumption
  ihave Hp := (side_join c (prv c) (logits m)) $$ [Hp S2 Hp1]
  · isplitl [Hp]; · iexact Hp
    isplitl [S2] <;> iassumption
  ihave Hn := (side_join c (nxt c) (logits m)) $$ [Hn Hn0 S3]
  · isplitl [Hn]; · iexact Hn
    isplitl [Hn0] <;> iassumption
  ihave Hcomm := (comm_blocks c (logits m)).2 $$ [Hc Hp Hn Hq]
  · isplitl [Hc]; · iexact Hc
    isplitl [Hp]; · iexact Hp
    isplitl [Hn] <;> iassumption
  ihave Hout := (out_join c (oblk m c)) $$ [O0 O1 O2 O3]
  · isplitl [O0]; · iexact O0
    isplitl [O1]; · iexact O1
    isplitl [O2] <;> iassumption
  iapply run_ret
  iapply Hk
  isplitl [HO]; · iexact HO
  isplitl [Hcomm]; · iexact Hcomm
  isplitl [Zb]; · iexact Zb
  isplitl [Zs0 Zs1 Zs2 Zs3 Zs4 Zs5 Zr0 Zr1 Zr2 Zr3 Zr4 Zr5]
  · rw [sep12]
    isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zr0]; · iexact Zr0
    isplitl [Zr1]; · iexact Zr1
    isplitl [Zr2]; · iexact Zr2
    isplitl [Zr3]; · iexact Zr3
    isplitl [Zr4]; · iexact Zr4
    iexact Zr5
  isplitl [Hx]; · iexact Hx
  isplitl [Hw]; · iexact Hw
  iexact Hout

end Cert.KernelIdealProof

end
-- ==== Proof.KernelIdeal.Obligation.lean ====
/-
# The kernel's one step, as the pipeline runs it

What the staged buffers hold before and after, and that the kernel takes the one to the other.
-/
module

public import proofs.«01_k».proof.Proof.KernelIdeal.Body

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The kernel's own twelve semaphores. -/
def osem (k : Fin 12) : SemLoc sig := .dma (dQ k)

theorem cfg0_N : cfg0.N = 1 := N_0
def t₀ : Fin cfg0.N := ⟨0, by rw [cfg0_N]; decide⟩
theorem fin_t (t : Fin cfg0.N) : t = t₀ := by obtain ⟨t, ht⟩ := t; have := cfg0_N; exact Fin.ext (by simp only [t₀]; omega)

theorem fetch_0 (t : Fin cfg0.N) : (cfg0.win (0 : Fin 3)).fetch t = true := by rw [fin_t t]; rfl
theorem fetch_1 (t : Fin cfg0.N) : (cfg0.win (1 : Fin 3)).fetch t = true := by rw [fin_t t]; rfl

/-- What device `c` starts the kernel with. -/
def start (c : Dev nD) : sProp 𝕄 := iprop(∃ K, entry m K c)

/-- Before the kernel: that, and the communication buffer with anything in it. After it: that buffer and every counter at zero. -/
def Φ₀ (c : Dev nD) : sProp 𝕄 :=
  iprop(start m c ∗ ∃ f : cc0_scratch0.ty.Contents (Elt F), (((c : Thread nD τ).loc cc0_scratch0) ↦{fullShare} f))
def Φ₁ (c : Dev nD) : sProp 𝕄 :=
  iprop((((c : Thread nD τ).loc cc0_scratch0) ↦{fullShare} logits m) ∗ semVal (barCell c) 0 ∗ bigSep Finset.univ (fun k : Fin 12 => semVal (xCell c k) 0))

/-- What each window's buffer holds, and what passes over the kernel's one step. -/
def dats (_ : Fin 1) (c : Dev nD) : Dat τ (Elt F) Unit ℕ UU ℕ cfg0 c where
  A w := m ((cfg0.win w).arr.view.loc (c : Thread nD τ))
  after w _ := match w with
    | 0 => xstg m c
    | 1 => wstg m c
    | 2 => outAt m c
  Φ := fun t => if t.val = 0 then Φ₀ m c else Φ₁ m c
  q _ := fullShare
  owed := fun t => if t.val = 0 then owed₀ c else 0

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ m c ∗ (dats m 0 c).owesAt () t₀.succ ∗ stg c cc0_stg0_0 (xstg m c) ∗ stg c cc0_stg1_0 (wstg m c) ∗ stg c cc0_stg2_0 (outAt m c))

/-- The kernel's step in the form the pipeline asks for. -/
theorem step_run (c : Dev nD) : bodyPre m c ⊢ run c (cc0_body xM (Memref.isWhole_whole _) wM (Memref.isWhole_whole _) oM (Memref.isWhole_whole _) cM (Memref.isWhole_whole _) cc0_scratch1 cc0_scratch2) (fun _ => bodyPost m c) := by
  unfold bodyPre Φ₀ start Dat.owesAt Pipeline.owesWithin
  rw [show (dats m 0 c).owed t₀.castSucc = owed₀ c from rfl]
  iintro ⟨⟨⟨%K, Hs⟩, Hcomm⟩, ⟨%W, -, HO⟩, ⟨%d0, %g0, %hx, Hx⟩, ⟨%d1, %g1, %hw, Hw⟩, ⟨%d2, %g2, -, Hout⟩⟩
  have hx' : g0 = xstg m c := by rw [hx]; unfold Dat.before; rw [if_pos (fetch_0 t₀)]; rfl
  have hw' : g1 = wstg m c := by rw [hw]; unfold Dat.before; rw [if_pos (fetch_1 t₀)]; rfl
  subst hx' hw'
  iapply (body_run m K c) $$ [Hs HO Hcomm Hx Hw Hout]
  · isplitl [Hs]; · iexact Hs
    isplitl [HO]; · unfold ow; iexists W; iexact HO
    isplitl [Hcomm]; · iexact Hcomm
    isplitl [Hx]; · iexact Hx
    isplitl [Hw]; · iexact Hw
    iexists g2; iexact Hout
  unfold ow
  iintro ⟨⟨%W', HO⟩, Hcomm, Hb, Hz, Hx, Hw, Hout⟩
  unfold bodyPost Φ₁ Dat.owesAt Pipeline.owesWithin
  rw [show (dats m 0 c).owed t₀.succ = 0 from rfl]
  isplitl [Hcomm Hb Hz]
  · isplitl [Hcomm]; · iexact Hcomm
    isplitl [Hb] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem body_obligation (c : Dev nD) : BodyObligation (dats (F := F) m 0 c) (defs₀ (F := F)) 𝒱₀ () Set.univ := fun t => by
  rw [fin_t t]
  rw [bigSep_W0, bigSep_W0]
  simp only [owns_whole_eq]
  exact step_run m c

end Cert.KernelIdealProof

end
-- ==== Proof.KernelIdeal.Launch.lean ====
/-
# The launch

The invariants of all the counters are set up at once, each duty's token goes to the device that pays with it, and what the devices
owe one another is what each expects to receive.
-/
module

public import proofs.«01_k».proof.Proof.KernelIdeal.Obligation

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The memory the run starts in. -/
def s₀ : MemSt nD τ sig (Elt F) := ⟨m, fun _ => 0, ρ⟩

theorem ownSemFacts : Pipeline.OwnSemFacts cfg0.spec osem := by decide
theorem share_eq (c : Dev nD) (w : Fin cfg0.W) : (dats m 0 c).share w = fullShare := by unfold Dat.share; split <;> rfl

/-! ## The counters and the tokens the launch deals -/

theorem kcell_injective : Function.Injective kcell := by
  rintro ⟨c, k⟩ ⟨c', k'⟩ h
  have h1 : c = c' := by
    have := congrArg (fun g : GSem nD τ sig => g.1.1) h
    rcases k with _ | k <;> rcases k' with _ | k' <;> exact this
  subst h1
  have h2 : (kcell (c, k)).2 = (kcell (c, k')).2 := congrArg Prod.snd h
  rcases k with u | k <;> rcases k' with u' | k'
  · rfl
  · exact absurd h2 (by intro e; cases e)
  · exact absurd h2 (by intro e; cases e)
  · rw [dQ_inj (SemLoc.dma.inj h2)]
def allCells : Finset (GSem nD τ sig) := Finset.univ.map ⟨kcell, kcell_injective⟩

/-- The duties of device `c`'s own counters: the two of its barrier and one of each transfer semaphore. -/
abbrev CT : Type := Bool ⊕ Fin 12
def tokOf (p : Dev nD × CT) : GSem nD τ sig × ℕ × Bool :=
  match p.2 with
  | .inl b => (barCell p.1, 0, b)
  | .inr k => (xCell p.1 k, 0, false)
theorem tokOf_injective : Function.Injective tokOf := by
  rintro ⟨c, k⟩ ⟨c', k'⟩ h
  have h1 : c = c' := by
    have := congrArg (fun g : GSem nD τ sig × ℕ × Bool => g.1.1.1) h
    rcases k with _ | k <;> rcases k' with _ | k' <;> exact this
  subst h1
  have h2 : (tokOf (c, k)).1.2 = (tokOf (c, k')).1.2 := congrArg (fun g : GSem nD τ sig × ℕ × Bool => g.1.2) h
  have h3 : (tokOf (c, k)).2.2 = (tokOf (c, k')).2.2 := congrArg (fun g : GSem nD τ sig × ℕ × Bool => g.2.2) h
  rcases k with b | k <;> rcases k' with b' | k'
  · have e : b = b' := h3
    rw [e]
  · exact absurd h2 (by intro e; cases e)
  · exact absurd h2 (by intro e; cases e)
  · rw [dQ_inj (SemLoc.dma.inj h2)]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The tokens of device `c`'s own counters. -/
def toks (c : Dev nD) : sProp 𝕄 :=
  bigSep Finset.univ fun j : CT => dutyTok ER (tokOf (c, j)).1 (tokOf (c, j)).2.1 (tokOf (c, j)).2.2

/-- What the launch deals device `c`. -/
def G (c : Dev nD) : sProp 𝕄 :=
  iprop((bigSep Finset.univ fun k : CK => roundState ER (proto m) (kcell (c, k)) 0)
    ∗ (bigSep Finset.univ fun k : CK => atPos ER (kcell (c, k)) 0 ∅ 0) ∗ (bigSep Finset.univ fun k : CK => reached ER (kcell (c, k)) 0) ∗ toks c)

omit [FloatOps F] in
theorem fund_all [FloatOps F] : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (proto m) allCells allToks) $$ HX with ⟨Hst, Hr, Hat, Htok⟩
  imodintro
  ihave Hst := (Entails.of_eq (hX fun g => roundState ER (proto m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-! ## Sums over a device's counters -/

omit [FloatOps F] in
theorem sep_sr (P : Fin 12 → sProp 𝕄) :
    bigSep Finset.univ P = iprop(bigSep Finset.univ (fun i : Fin 6 => P (sk i)) ∗ bigSep Finset.univ (fun i : Fin 6 => P (rk i))) := by
  have hr : ∀ i : Fin 6, (finSumFinEquiv (m := 6) (n := 6)) (.inr i) = rk i := by decide
  rw [bigSep_univ_equiv (finSumFinEquiv (m := 6) (n := 6)) P, bigSep_univ_sum]
  simp only [hr]
  rfl

omit [FloatOps F] in
theorem sep_cells (P : CK → sProp 𝕄) : bigSep Finset.univ P = iprop(P (.inl ()) ∗ bigSep Finset.univ (fun k : Fin 12 => P (.inr k))) := by
  rw [bigSep_univ_sum, bigSep_univ_of_subsingleton ()]
  rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 12 => semVal (xCell c k) 0 := rfl

omit [FloatOps F] in
/-- The barrier is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The tokens to the devices that pay with them -/

/-- The tokens device `c` pays with. -/
def payToks (c : Dev nD) : sProp 𝕄 :=
  iprop(dutyTok ER (barCell (prv c)) 0 true ∗ dutyTok ER (barCell (nxt c)) 0 false ∗ bigSep Finset.univ (fun i : Fin 6 => stok (F := F) c i))

/-- Transfer `i` pairs every device with the one it sends to. -/
def sends (i : Fin 6) : Dev nD ≃ Dev nD := ⟨tgt i, org i, org_tgt i, tgt_org i⟩

omit [FloatOps F] in
theorem toks_eq (c : Dev nD) : (toks c : sProp 𝕄)
    = iprop((dutyTok ER (barCell c) 0 false ∗ dutyTok ER (barCell c) 0 true)
      ∗ bigSep Finset.univ (fun i : Fin 6 => dutyTok ER (xCell c (sk i)) 0 false) ∗ bigSep Finset.univ (fun i : Fin 6 => dutyTok ER (xCell c (rk i)) 0 false)) := by
  unfold toks
  rw [bigSep_univ_sum, bigSep_univ_eq_bigSepL [false, true] (by decide) (by decide), bigSepL_cons_cons, bigSepL_singleton, sep_sr]
  rfl

omit [FloatOps F] in
/-- An arrival's token goes to the device the transfer comes from. -/
theorem arrivals_around : (bigSep Finset.univ fun c : Dev nD => bigSep Finset.univ fun i : Fin 6 => (dutyTok ER (xCell c (rk i)) 0 false : sProp 𝕄))
    = bigSep Finset.univ fun c : Dev nD => bigSep Finset.univ fun i : Fin 6 => dutyTok ER (xCell (tgt i c) (rk i)) 0 false := by
  rw [BI.bigSep_univ_comm, BI.bigSep_univ_comm (fun (c : Dev nD) (i : Fin 6) => (dutyTok ER (xCell (tgt i c) (rk i)) 0 false : sProp 𝕄))]
  exact bigSep_congr fun i _ => bigSep_univ_equiv (sends i) (fun c : Dev nD => (dutyTok ER (xCell c (rk i)) 0 false : sProp 𝕄))

omit [FloatOps F] in
theorem toks_around : (bigSep Finset.univ fun c : Dev nD => (toks c : sProp 𝕄)) ⊢ bigSep Finset.univ fun c : Dev nD => payToks c := by
  simp only [toks_eq, payToks, stok, bigSep_sep']
  rw [arrivals_around,
    bigSep_univ_equiv onward (fun c : Dev nD => (dutyTok ER (barCell c) 0 false : sProp 𝕄)),
    bigSep_univ_equiv backward (fun c : Dev nD => (dutyTok ER (barCell c) 0 true : sProp 𝕄))]
  iintro ⟨⟨H1, H2⟩, H3, H4⟩
  isplitl [H2]; · iexact H2
  isplitl [H1]; · iexact H1
  isplitl [H3]; · iexact H3
  iexact H4

/-! ## The counters' invariants, all devices at once -/

/-- What stays with device `c`: its places and the tokens it pays with. -/
def own (c : Dev nD) : sProp 𝕄 := iprop((bigSep Finset.univ fun k : CK => atPos ER (kcell (c, k)) 0 ∅ 0) ∗ payToks c)

def G' (c : Dev nD) : sProp 𝕄 := iprop(∃ K, records m K ∗ own c)

theorem alloc_at (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (proto m) κ (kcell (c, k))))
          ∗ (bigSep Finset.univ fun k : CK => reached ER (kcell (c, k)) 0) ∗ (bigSep Finset.univ fun k : CK => atPos ER (kcell (c, k)) 0 ∅ 0) ∗ toks c) := by
  unfold G
  rw [ownSems0_eq, unscopedSems0_eq]
  iintro ⟨Hx, Hb, Hst, Hat, Hr, Htok⟩
  imod (show iprop((semVal (barCell c) 0 ∗ bigSep Finset.univ fun k : Fin 12 => semVal (xCell c k) 0) ∗ bigSep Finset.univ fun k : CK => roundState ER (proto m) (kcell (c, k)) 0)
      ⊢ (|={Set.univ}=> bigSep Finset.univ fun k : CK => iprop(∃ κ : ℕ, cellInv ER (proto m) κ (kcell (c, k))) : sProp 𝕄) from by
        rw [show iprop(semVal (barCell c) 0 ∗ bigSep Finset.univ fun k : Fin 12 => semVal (xCell c k) 0) = (bigSep Finset.univ fun k : CK => semVal (kcell (c, k)) 0 : sProp 𝕄) from
          (sep_cells (fun k : CK => semVal (kcell (c, k)) 0)).symm, ← bigSep_sep']
        exact (bigSep_mono fun k _ => (Rounds.body_intro ER (proto m) (kcell (c, k))).trans inv_alloc).trans (bigSep_fupd _ _)) $$ [Hx Hb Hst] with Hinv
  · isplitl [Hx Hb]
    · isplitl [Hb] <;> iassumption
    iexact Hst
  imodintro
  isplitl [Hinv]; · iexact Hinv
  isplitl [Hr]; · iexact Hr
  isplitl [Hat] <;> iassumption

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (proto m) κ (kcell (c, k))))
          ∗ (bigSep Finset.univ fun k : CK => reached ER (kcell (c, k)) 0) ∗ (bigSep Finset.univ fun k : CK => atPos ER (kcell (c, k)) 0 ∅ 0) ∗ toks c) : sProp 𝕄)
      ⊢ bigSep Finset.univ (G' m) := by
  rw [bigSep_sep', bigSep_sep', bigSep_sep', ← bigSep_univ_prod (fun p : Dev nD × CK => iprop(∃ κ : ℕ, cellInv ER (proto m) κ (kcell p))),
    ← bigSep_univ_prod (fun p : Dev nD × CK => (reached ER (kcell p) 0 : sProp 𝕄))]
  iintro ⟨HI, #HR, Hat, Htok⟩
  ihave HK := (BI.bigSep_exists_pi Finset.univ (fun (p : Dev nD × CK) (κ : ℕ) => (cellInv ER (proto m) κ (kcell p) : sProp 𝕄))) $$ HI
  icases HK with ⟨%K, #HI⟩
  ihave Htk := (toks_around (F := F)) $$ Htok
  iapply (with_persistent (R := records m K) (Φ := fun c => own (F := F) c) fun c _ => (show _ ⊢ G' m c from by
    unfold G'; iintro ⟨HK, Ho⟩; iexists K; isplitl [HK] <;> iassumption))
  isplitr
  · unfold records; rw [bigSep_sep']
    isplitr; · iexact HI
    iexact HR
  · unfold own; rw [bigSep_sep']
    isplitl [Hat] <;> iassumption

/-- All the semaphores' invariants are set up, and every device is dealt what it starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_at m c).trans (bigSep_fupd _ _)).trans (BI.fupd_mono (regroup m))

/-! ## What a device may expect to receive -/

/-- Two signals, and the six arrivals. -/
def due (c : Dev nD) : CellTallies nD τ sig Unit :=
  tallyAt (barCell c) () 2 + ∑ i : Fin 6, tallyAt (xCell c (rk i)) () N

/-- Everything owed is due to somebody. -/
theorem owed_due : (∑ d : Dev nD, owed₀ d) = ∑ d, due d := by
  have hb1 : (∑ d : Dev nD, tallyAt (barCell (nxt d)) () 1) = ∑ d : Dev nD, (tallyAt (barCell d) () 1 : CellTallies nD τ sig Unit) :=
    Equiv.sum_comp onward (fun d => (tallyAt (barCell d) () 1 : CellTallies nD τ sig Unit))
  have hb2 : (∑ d : Dev nD, tallyAt (barCell (prv d)) () 1) = ∑ d : Dev nD, (tallyAt (barCell d) () 1 : CellTallies nD τ sig Unit) :=
    Equiv.sum_comp backward (fun d => (tallyAt (barCell d) () 1 : CellTallies nD τ sig Unit))
  have hx (i : Fin 6) : (∑ d : Dev nD, tallyAt (xCell (tgt i d) (rk i)) () N) = ∑ d : Dev nD, (tallyAt (xCell d (rk i)) () N : CellTallies nD τ sig Unit) :=
    Equiv.sum_comp (sends i) (fun d => (tallyAt (xCell d (rk i)) () N : CellTallies nD τ sig Unit))
  have h2 (d : Dev nD) : (tallyAt (barCell d) () 2 : CellTallies nD τ sig Unit) = tallyAt (barCell d) () 1 + tallyAt (barCell d) () 1 := (tallyAt_add _ _ 1 1).symm
  simp only [owed₀, owed₁, owed, order, due, h2, Fin.sum_univ_six, Finset.sum_add_distrib, hb1, hb2, hx, Finset.sum_const_zero, zero_add]
  ac_rfl

theorem due_own (d : Dev nD) (g : GSem nD τ sig) (h : due d g ≠ 0) : g.1 = (d.tc : Thread nD τ) := by
  by_contra hg
  apply h
  unfold due
  rw [Pi.add_apply, Finset.sum_apply, tallyAt_ne_cell (fun e => hg (congrArg Prod.fst e)),
    Finset.sum_eq_zero (fun i _ => tallyAt_ne_cell (fun e => hg (congrArg Prod.fst e)) _ _), add_zero]

omit [FloatOps F] in
theorem creds (c : Dev nD) :
    (Pipeline.launchCred owed₀ c : sProp 𝕄) ⊢ iprop(cred (tallyAt (barCell c) () 2) ∗ bigSep Finset.univ (fun i : Fin 6 => crd (F := F) c (rk i))) := by
  rw [Pipeline.launchCred_of_sum owed₀ due owed_due due_own c, sep6]
  unfold due
  rw [Fin.sum_univ_six]
  iintro H
  ihave H := (cred_add _ _).1 $$ H
  icases H with ⟨Hb, H⟩
  ihave H := (cred_add _ _).1 $$ H
  icases H with ⟨H, H5⟩
  ihave H := (cred_add _ _).1 $$ H
  icases H with ⟨H, H4⟩
  ihave H := (cred_add _ _).1 $$ H
  icases H with ⟨H, H3⟩
  ihave H := (cred_add _ _).1 $$ H
  icases H with ⟨H, H2⟩
  ihave H := (cred_add _ _).1 $$ H
  icases H with ⟨H0, H1⟩
  isplitl [Hb]; · iexact Hb
  isplitl [H0]; · iexact H0
  isplitl [H1]; · iexact H1
  isplitl [H2]; · iexact H2
  isplitl [H3]; · iexact H3
  isplitl [H4] <;> iassumption

/-! ## Entering and leaving the kernel -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  unfold G' own payToks
  rw [sep_cells]
  iintro ⟨-, Hlev, Hcr, -, ⟨%K, HK, ⟨Hbar, Hat⟩, Ht1, Ht2, Ht3⟩⟩
  ihave Hc := (creds (F := F) c) $$ Hcr
  icases Hc with ⟨H1, HN⟩
  imodintro
  unfold start entry
  isplitl
  · iexists K
    isplitl [HK]; · iexact HK
    isplitl [Hlev]; · iexact Hlev
    isplitl [Ht1 Ht2 Ht3]
    · isplitl [Ht1]; · iexact Ht1
      isplitl [Ht2] <;> iassumption
    isplitl [H1]; · iexact H1
    isplitl [HN]; · iexact HN
    isplitl [Hbar]; · iexact Hbar
    iexact Hat
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨Hr, Hb, Hz⟩
  isplitl [Hb]; · iexact Hb
  isplitl [Hz]; · iexact Hz
  iexists logits m; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

end Cert.KernelIdealProof

end
-- ==== Proof.KernelIdeal.Run.lean ====
/-
# The run

The program on all four devices ends, with the arguments as they were, the result as computed and every counter at zero.
-/
module

public import proofs.«01_k».proof.Proof.KernelIdeal.Launch
public import Idealize.ShloMosaic.Lib.Pipeline.CollectiveSegs

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- What the array of window `w` holds on device `c` after the run. -/
def finalA (c : Dev nD) (w : Fin cfg0.W) : Buf (Elt F) ((cfg0.win w).arr.view.loc (c : Thread nD τ)) := (dats m 0 c).arrAt w cfg0.N

set_option maxRecDepth 8000 in
/-- From any memory with zero counters every weakly fair execution on the four devices ends; it leaves each device's arrays at
    `finalA` and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold what they held. -/
theorem finalA_x (c : Dev nD) : finalA m c (0 : Fin 3) = m ((c : Thread nD τ).loc main_arg0) := (dats (F := F) m 0 c).arrAt_in (0 : Fin 3) rfl _
theorem finalA_w (c : Dev nD) : finalA m c (1 : Fin 3) = m ((c : Thread nD τ).loc main_arg1) := (dats (F := F) m 0 c).arrAt_in (1 : Fin 3) rfl _

/-- Each window is its whole array: what it stages is the array. -/
theorem xstg_eq (c : Dev nD) : xstg m c = m ((c : Thread nD τ).loc main_arg0) :=
  Memref.read_access_unit_zero (Elt F) main_arg0 (funext fun a => by fin_cases a <;> rfl) (fun a => by fin_cases a <;> decide) _
theorem wstg_eq (c : Dev nD) : wstg m c = m ((c : Thread nD τ).loc main_arg1) :=
  Memref.read_access_unit_zero (Elt F) main_arg1 (funext fun a => by fin_cases a <;> rfl) (fun a => by fin_cases a <;> decide) _

/-- The result array ends holding `outAt`. -/
theorem finalA_out (c : Dev nD) : finalA m c (2 : Fin 3) = outAt m c := by
  have h : (win0_2.blk (0 : Fin 1)).view.read (Elt F) (finalA m c (2 : Fin 3)) = outAt m c := by
    unfold finalA
    rw [show cfg0.N = ((0 : Fin 1) : Fin cfg0.N).val + 1 from rfl, (dats m 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (funext fun a => by fin_cases a <;> rfl) (fun a => by fin_cases a <;> decide) _).symm.trans h

/-- The run with every buffer of the program's interface named: the result is `outAt`, the arguments are unchanged, and every
    counter ends at zero. -/
theorem run_named : θ_run defs (onTc (τ := τ) (main (F := F))) (s₀ m ρ)
    (fun r => (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (finalA_out m c), (h.1 c (0 : Fin 3)).trans (finalA_x m c),
    (h.1 c (1 : Fin 3)).trans (finalA_w m c)⟩, h.2⟩) (run_main m ρ)

end Cert.KernelIdealProof

end
-- ==== Proof.Value.Softmax.lean ====
/-
# The softmax of a row, over the reals

What a row of finite logits comes to, however the exponentials are shifted: the reference subtracts one number from the
whole row, the kernel first one number per block and then the difference of that and another. No shift has to be a maximum.
-/
module

public import Idealize.ShloMosaic.PureOps.Ideal

@[expose] public section

noncomputable section

namespace Cert.Softmax

open Idealize.ShloMosaic

/-- A finite sum of reals, taken in the extended reals, is their sum. -/
theorem coe_sum {ι : Type} (s : Finset ι) (f : ι → ℝ) : ∑ i ∈ s, ((f i : ℝ) : EReal) = ((∑ i ∈ s, f i : ℝ) : EReal) := by
  classical
  induction s using Finset.induction_on with
  | empty => rw [Finset.sum_empty, Finset.sum_empty]; rfl
  | insert a s ha ih => rw [Finset.sum_insert ha, Finset.sum_insert ha, ih, EReal.coe_add]

/-- The greatest of finitely many reals, at least one of them, is a real. -/
theorem fold_max_real {n : ℕ} (hn : 0 < n) (f : Fin n → ℝ) :
    ∃ r : ℝ, (Finset.univ : Finset (Fin n)).fold max (⊥ : EReal) (fun k => ((f k : ℝ) : EReal)) = (r : EReal) := by
  have hb : (⊥ : EReal) < (Finset.univ : Finset (Fin n)).fold max (⊥ : EReal) (fun k => ((f k : ℝ) : EReal)) :=
    (Finset.lt_fold_max _).2 (Or.inr ⟨⟨0, hn⟩, Finset.mem_univ _, EReal.bot_lt_coe _⟩)
  have ht : (Finset.univ : Finset (Fin n)).fold max (⊥ : EReal) (fun k => ((f k : ℝ) : EReal)) < ⊤ :=
    (Finset.fold_max_lt _).2 ⟨bot_lt_top, fun k _ => EReal.coe_lt_top _⟩
  exact ⟨_, (EReal.coe_toReal ht.ne hb.ne').symm⟩

/-- An exponential of a difference of reals. -/
theorem exp_sub (a b : ℝ) : Ideal.exp ((a : EReal) - (b : EReal)) = ((Real.exp (a - b) : ℝ) : EReal) := by
  rw [← EReal.coe_sub, Ideal.exp_coe]

/-- A row shifted by one number. -/
theorem shifted {n : ℕ} (l : Fin n → ℝ) (M : ℝ) (j : Fin n) :
    Ideal.div (Ideal.exp ((l j : EReal) - (M : EReal))) (0 + ∑ k, Ideal.exp ((l k : EReal) - (M : EReal)))
      = ((Real.exp (l j) / ∑ k, Real.exp (l k) : ℝ) : EReal) := by
  have hpos : 0 < ∑ k, Real.exp (l k - M) := Finset.sum_pos (fun _ _ => Real.exp_pos _) ⟨j, Finset.mem_univ _⟩
  simp only [exp_sub]
  rw [zero_add, coe_sum, Ideal.div_coe hpos.ne', ← EReal.coe_mul]
  congr 1
  simp only [Real.exp_sub]
  rw [← Finset.sum_div]
  have h1 : 0 < ∑ k, Real.exp (l k) := Finset.sum_pos (fun _ _ => Real.exp_pos _) ⟨j, Finset.mem_univ _⟩
  have h2 := Real.exp_pos M
  field_simp

/-- A row of four blocks, each shifted by its own number `q b` and then brought to the common `M`. The sum over the blocks is
    taken in the order `b₁`, `b₂`, `b₃`, `b₄`. -/
theorem blockwise {n : ℕ} (l : Fin 4 → Fin n → ℝ) (q : Fin 4 → ℝ) (M : ℝ) (b₁ b₂ b₃ b₄ b : Fin 4) (k : Fin n)
    (hb : ∀ g : Fin 4 → ℝ, g b₁ + g b₂ + g b₃ + g b₄ = ∑ b, g b) (s f : Fin 4 → EReal)
    (hs : ∀ b, s b = ∑ k, Ideal.exp ((l b k : EReal) - (q b : EReal))) (hf : ∀ b, f b = Ideal.exp ((q b : EReal) - (M : EReal))) :
    Ideal.exp ((l b k : EReal) - (q b : EReal)) * (f b * Ideal.div 1 (s b₁ * f b₁ + s b₂ * f b₂ + s b₃ * f b₃ + s b₄ * f b₄))
      = ((Real.exp (l b k) / ∑ b, ∑ k, Real.exp (l b k) : ℝ) : EReal) := by
  have e (b : Fin 4) : s b * f b = (((∑ k, Real.exp (l b k)) / Real.exp M : ℝ) : EReal) := by
    rw [hs, hf]
    simp only [exp_sub]
    rw [coe_sum, ← EReal.coe_mul]
    congr 1
    simp only [Real.exp_sub]
    rw [← Finset.sum_div]
    have := Real.exp_pos (q b)
    have := Real.exp_pos M
    field_simp
  have hpos : 0 < ∑ b, ∑ k, Real.exp (l b k) :=
    Finset.sum_pos (fun _ _ => Finset.sum_pos (fun _ _ => Real.exp_pos _) ⟨k, Finset.mem_univ _⟩) ⟨b, Finset.mem_univ _⟩
  have hM := Real.exp_pos M
  have hq := Real.exp_pos (q b)
  simp only [e]
  rw [← EReal.coe_add, ← EReal.coe_add, ← EReal.coe_add, hb (fun b => (∑ k, Real.exp (l b k)) / Real.exp M), ← Finset.sum_div,
    Ideal.div_coe (div_pos hpos hM).ne', hf, exp_sub, exp_sub, one_mul, ← EReal.coe_mul, ← EReal.coe_mul]
  congr 1
  rw [Real.exp_sub, Real.exp_sub]
  field_simp

/-- A sum over a row of `a * n` columns, taken block by block. -/
theorem sum_blocks {a n N : ℕ} (h : N = a * n) (f : Fin N → ℝ) (g : Fin a → Fin n → Fin N) (hg : ∀ b k, (g b k).val = n * b.val + k.val) :
    ∑ j, f j = ∑ b, ∑ k, f (g b k) := by
  subst h
  rw [← Equiv.sum_comp finProdFinEquiv f, Fintype.sum_prod_type]
  refine Finset.sum_congr rfl fun b _ => Finset.sum_congr rfl fun k _ => congrArg f (Fin.ext ?_)
  rw [hg]
  show k.val + n * b.val = _
  omega

end Cert.Softmax

end
-- ==== Proof.Value.Reference.lean ====
/-
# The reference's result at an index

The reference's result is the softmax of the rows of its product, as a formula over the reals wherever the product is finite.
-/
module

public import proofs.«01_k».proof.Proof.Gen.ReferenceIdeal
public import proofs.«01_k».proof.Proof.Value.Softmax
public import Idealize.ShloMosaic.PureOps.Ideal.Laws
public import Idealize.ShloMosaic.Lib.KernelVsHost
public import Idealize.ShloMosaic.Lib.MatmulPlain
public import Idealize.ShloMosaic.Lib.IdealHost
public import Idealize.ShloMosaic.Lib.Pipeline.Value

@[expose] public section

set_option maxRecDepth 16384

noncomputable section

namespace Cert.RefValue

open Cert.ReferenceIdeal Cert.ReferenceIdeal.Gen Idealize.ShloMosaic Idealize.ShloMosaic.ValueIdx

/-- The reference's product. -/
def product (x : FVec Ideal S256x512 .f32) (w : FVec Ideal S512x16384 .f32) : FVec Ideal S256x16384 .f32 :=
  Host.dotGeneral dot_S256x512_S512x16384_S256x16384_1_0_0_1_n_n none x w

/-- The greatest entry of each row, laid along the row. -/
def rowMax (L : FVec Ideal S256x16384 .f32) : FVec Ideal S256x16384 .f32 :=
  broadcastInDim S256x16384 ![0, 1] bcast_S256x1_S256x16384_0_1 (broadcastInDim S256x1 ![0] bcast_S256_S256x1_0
    (Host.reduce FloatOps.maximumf L (constant S_ .f32 0xFF800000#32) reducesTo_S256x16384_S256_d1 h_S_))

/-- The sum of each row, laid along the row. -/
def rowSum (E : FVec Ideal S256x16384 .f32) : FVec Ideal S256x16384 .f32 :=
  broadcastInDim S256x16384 ![0, 1] bcast_S256x1_S256x16384_0_1 (broadcastInDim S256x1 ![0] bcast_S256_S256x1_0
    (Host.reduceAdd E (constant S_ .f32 0x00000000#32) reducesTo_S256x16384_S256_d1 h_S_))

/-- What the reference computes of its product `L`. -/
def softmaxOf (L : FVec Ideal S256x16384 .f32) : FVec Ideal S256x16384 .f32 :=
  Host.divf (Host.exp (subf L (rowMax L))) (rowSum (Host.exp (subf L (rowMax L))))

theorem product_at (x : FVec Ideal S256x512 .f32) (w : FVec Ideal S512x16384 .f32) (r : Fin 256) (j : Fin 16384) :
    product x w (ix2 r j) = ∑ q : Fin 512, x (ix2 r q) * w (ix2 q j) := by
  have e := Ideal.matmul_plain_apply (φ₁ := .f32) (φ₂ := .f32) none x w (constant S256x16384 .f32 0x00000000#32) r j
  have h0 : (constant S256x16384 .f32 0x00000000#32 : FVec Ideal S256x16384 .f32) (ix2 r j) = 0 := Ideal.ofBits_zero_f32
  rw [h0, zero_add] at e
  refine Eq.trans ?_ e
  exact (congrFun (matmul_zero_eq_dotGeneral dot_S256x512_S512x16384_S256x16384_1_0_0_1_n_n none x w) (ix2 r j)).symm

theorem reduces_row : S256x16384.Reduces [1] S256 := by decide

/-- A row's index with a column put in. -/
theorem lift_row (r : Fin 256) (k : Fin 16384) : reduces_row.lift (ix1 r) k = (ix2 r k : S256x16384.Idx) := by
  funext a
  match a with
  | ⟨0, _⟩ => rfl
  | ⟨1, _⟩ => rfl

/-- A column laid along every row. -/
theorem along_row (v : FVec Ideal S256 .f32) (r : Fin 256) (j : Fin 16384) :
    broadcastInDim S256x16384 ![0, 1] bcast_S256x1_S256x16384_0_1 (broadcastInDim S256x1 ![0] bcast_S256_S256x1_0 v) (ix2 r j) = v (ix1 r) := by
  rw [broadcastInDim_apply ![0, 1] bcast_S256x1_S256x16384_0_1 _ (ix2 r j) (ix2 r (0 : Fin 1)) (by intro a; fin_cases a <;> rfl)]
  exact broadcastInDim_apply ![0] bcast_S256_S256x1_0 v (ix2 r (0 : Fin 1)) (ix1 r) (by intro a; fin_cases a; rfl)

theorem negInf : Ideal.ofBits .f32 0xFF800000#32 = (⊥ : EReal) := by simp [Ideal.ofBits, Ideal.ieee]

theorem rowMax_at (L : FVec Ideal S256x16384 .f32) (r : Fin 256) (j : Fin 16384) :
    rowMax L (ix2 r j) = (Finset.univ : Finset (Fin 16384)).fold max (⊥ : EReal) fun k => L (ix2 r k) := by
  unfold rowMax
  rw [along_row, Host.reduce_eq_fold_single FloatOps.maximumf L _ _ reduces_row, ← negInf]
  exact congrArg (fun f => Finset.fold max (Ideal.ofBits .f32 0xFF800000#32) f (Finset.univ : Finset (Fin 16384)))
    (funext fun k => congrArg L (lift_row r k))

theorem rowSum_at (E : FVec Ideal S256x16384 .f32) (r : Fin 256) (j : Fin 16384) :
    rowSum E (ix2 r j) = 0 + ∑ k : Fin 16384, E (ix2 r k) := by
  unfold rowSum
  rw [along_row, hostReduceAdd_apply, Ideal.hostReduceAdd_single _ reduces_row]
  refine congrArg₂ (· + ·) Ideal.ofBits_zero_f32 (Finset.sum_congr rfl fun k _ => congrArg E (lift_row r k))

/-- Where the product is finite the reference's result is the softmax of its rows. -/
theorem softmaxOf_at (L : FVec Ideal S256x16384 .f32) (l : S256x16384.Idx → ℝ) (hL : ∀ i, L i = ((l i : ℝ) : EReal)) (r : Fin 256) (j : Fin 16384) :
    softmaxOf L (ix2 r j) = ((Real.exp (l (ix2 r j)) / ∑ k : Fin 16384, Real.exp (l (ix2 r k)) : ℝ) : EReal) := by
  obtain ⟨M, hM⟩ := Softmax.fold_max_real (n := 16384) (by decide) fun k => l (ix2 r k)
  have hmax (k : Fin 16384) : rowMax L (ix2 r k) = (M : EReal) := by
    rw [rowMax_at, ← hM]
    simp only [hL]
  have he (k : Fin 16384) : Host.exp (subf L (rowMax L)) (ix2 r k) = Ideal.exp (((l (ix2 r k) : ℝ) : EReal) - (M : EReal)) :=
    congrArg Ideal.exp (congrArg₂ (· - ·) (hL _) (hmax k))
  unfold softmaxOf
  rw [hostDivf_apply, rowSum_at]
  simp only [he]
  exact Softmax.shifted (fun k => l (ix2 r k)) M j

end Cert.RefValue

end
-- ==== Proof.Value.Kernel.lean ====
/-
# The kernel's result at an index

Where the product is finite, the result of every device is the softmax of the rows of the product, as a formula over the
reals. The kernel shifts each block by the block's own row maxima first, and by their difference from the row maxima of
everything afterwards.
-/
module

public import proofs.«01_k».proof.Proof.KernelIdeal.Contents
public import proofs.«01_k».proof.Proof.Value.Softmax
public import Idealize.ShloMosaic.PureOps.Ideal.Laws
public import Idealize.ShloMosaic.Lib.KernelVsHost
public import Idealize.ShloMosaic.Lib.MatmulPlain
public import Idealize.ShloMosaic.Lib.IdealHost
public import Idealize.ShloMosaic.Lib.Pipeline.Value

@[expose] public section

set_option maxRecDepth 16384

noncomputable section

namespace Cert.KernelIdealProof

open Cert.KernelIdeal Cert.KernelIdeal.Gen
open Idealize.ShloMosaic Idealize.ShloMosaic.ValueIdx

variable (m : (ℓ : Loc nD τ sig) → Buf (Elt Ideal) ℓ)

/-! ## The operations on a block -/

/-- A row's index with a column put in. -/
theorem lift_row (r : Fin 256) (k : Fin 4096) : reduces_S256x4096_S256.lift (ix1 r) k = (ix2 r k : S256x4096.Idx) := by
  funext a
  match a with
  | ⟨0, _⟩ => rfl
  | ⟨1, _⟩ => rfl

/-- A vector over the rows, laid out as a column. -/
theorem as_column (v : FVec Ideal S256 .f32) (r : Fin 256) : shapeCast S256x1 v shapeCasts_S256_S256x1 (ix2 r (0 : Fin 1)) = v (ix1 r) :=
  shapeCast_apply v shapeCasts_S256_S256x1 (ix2 r (0 : Fin 1)) (ix1 r) (by
    rw [Shape.rowMajor_val_one, Shape.rowMajor_val_two]
    show r.val = r.val * 1 + 0
    omega)

/-- A column laid along every row. -/
theorem along_row (v : FVec Ideal S256x1 .f32) (r : Fin 256) (k : Fin 4096) :
    broadcastTo S256x4096 v broadcasts_S256x1_S256x4096 (ix2 r k) = v (ix2 r (0 : Fin 1)) :=
  broadcastTo_apply v broadcasts_S256x1_S256x4096 (ix2 r k) (ix2 r (0 : Fin 1)) (by intro a; fin_cases a <;> rfl)

theorem negInf : Ideal.ofBits .f32 0xFF800000#32 = (⊥ : EReal) := by simp [Ideal.ofBits, Ideal.ieee]

theorem pay5_at (v : FVec Ideal S256x4096 .bf16) (r : Fin 256) :
    k0_pay5 (F := Ideal) v (ix2 r (0 : Fin 1)) = (Finset.univ : Finset (Fin 4096)).fold max (⊥ : EReal) fun k => v (ix2 r k) := by
  unfold k0_pay5
  refine (as_column _ r).trans ?_
  refine (Ideal.multiReduction_maximumf_single _ _ reduces_S256x4096_S256 _ _ _).trans ?_
  refine Eq.trans (congrArg (fun f => Finset.fold max (Ideal.ofBits .f32 0xFF800000#32) f (Finset.univ : Finset (Fin 4096)))
    (funext fun k => congrArg v (lift_row r k))) ?_
  exact congrArg (fun z : EReal => Finset.fold max z (fun k : Fin 4096 => v (ix2 r k)) Finset.univ) negInf

theorem pay6_at (v : FVec Ideal S256x4096 .bf16) (r : Fin 256) (k : Fin 4096) :
    k0_pay6 (F := Ideal) v (ix2 r k) = Ideal.exp (v (ix2 r k) - k0_pay5 (F := Ideal) v (ix2 r (0 : Fin 1))) :=
  congrArg (fun z : EReal => Ideal.exp (v (ix2 r k) - z)) (along_row (k0_pay5 (F := Ideal) v) r k)

theorem pay7_at (v : FVec Ideal S256x4096 .bf16) (r : Fin 256) :
    k0_pay7 (F := Ideal) v (ix2 r (0 : Fin 1)) = ∑ k : Fin 4096, k0_pay6 (F := Ideal) v (ix2 r k) := by
  unfold k0_pay7
  refine (as_column _ r).trans ?_
  refine (Ideal.multiReduction_add_single _ _ reduces_S256x4096_S256 _ _ _).trans ?_
  exact Finset.sum_congr rfl fun k _ => congrArg (k0_pay6 (F := Ideal) v) (lift_row r k)

theorem pay25_at (f z : FVec Ideal S256x1 .f32) (e : FVec Ideal S256x4096 .f32) (r : Fin 256) (k : Fin 4096) :
    k0_pay25 (F := Ideal) f z e (ix2 r k) = e (ix2 r k) * (f (ix2 r (0 : Fin 1)) * z (ix2 r (0 : Fin 1))) := by
  unfold k0_pay25
  refine congrArg₂ (fun a b : EReal => a * b) ?_ (along_row (mulf f z) r k)
  rw [shapeCast_self]

theorem exp_sub_at (a z : FVec Ideal S256x1 .f32) (i : S256x1.Idx) : exp (subf a z) i = Ideal.exp (a i - z i) := rfl

theorem coe_max (a b : ℝ) : ((max a b : ℝ) : EReal) = max (a : EReal) (b : EReal) := EReal.coe_strictMono.monotone.map_max

/-! ## The blocks -/

/-- A column of block `b`, as a column of the whole. -/
abbrev col (b : Dev nD) (k : Fin 4096) : Fin 16384 :=
  ⟨4096 * b.val + k.val, by have h1 : b.val < 4 := b.isLt; have h2 := k.isLt; omega⟩

theorem lblk_at (b : Dev nD) (r : Fin 256) (k : Fin 4096) : lblk m b (ix2 r k) = logits m (ix2 r (col b k)) := by
  show logits m ((wR b).emb (ix2 r k)) = _
  refine congrArg (logits m) ?_
  funext a
  match a with
  | ⟨0, _⟩ => exact Fin.ext (show 0 + 1 * r.val = r.val by omega)
  | ⟨1, _⟩ => exact Fin.ext (show 4096 * b.val + 1 * k.val = 4096 * b.val + k.val by omega)

/-- A device with the three others is every device. -/
theorem ring_sum (c : Dev nD) (g : Fin 4 → ℝ) : g c + g (prv c) + g (nxt c) + g (opp c) = ∑ b, g b := by
  rw [Fin.sum_univ_four]
  fin_cases c
  · show g 0 + g 3 + g 1 + g 2 = _; ring
  · show g 1 + g 0 + g 2 + g 3 = _; ring
  · show g 2 + g 1 + g 3 + g 0 = _; ring
  · show g 3 + g 2 + g 0 + g 1 = _; ring

/-- The row maxima of everything, of the four blocks' row maxima. -/
theorem gmax_eq {F : FTy → Type} [FloatOps F] (m : (ℓ : Loc nD τ sig) → Buf (Elt F) ℓ) (c : Dev nD) :
    gmax m c = maximumf (maximumf (bmax m c) (bmax m (prv c))) (maximumf (bmax m (nxt c)) (bmax m (opp c))) := rfl

/-- The reciprocal of the combined row sums, of the four blocks' row sums and factors. -/
theorem rec_eq {F : FTy → Type} [FloatOps F] (m : (ℓ : Loc nD τ sig) → Buf (Elt F) ℓ) (c : Dev nD) :
    rec m c = divf (broadcast S256x1 (Scalar.ofBits .f32 0x3F800000#32 : F .f32))
      (addf (addf (addf (mulf (bsum m c) (fac m c c)) (mulf (bsum m (prv c)) (fac m c (prv c)))) (mulf (bsum m (nxt c)) (fac m c (nxt c))))
        (mulf (bsum m (opp c)) (fac m c (opp c)))) := rfl

/-- Four products, their sum and its reciprocal, at an index. -/
theorem recip_at (s₁ f₁ s₂ f₂ s₃ f₃ s₄ f₄ : FVec Ideal S256x1 .f32) (i : S256x1.Idx) :
    divf (broadcast S256x1 (Scalar.ofBits .f32 0x3F800000#32 : Ideal .f32)) (addf (addf (addf (mulf s₁ f₁) (mulf s₂ f₂)) (mulf s₃ f₃)) (mulf s₄ f₄)) i
      = Ideal.div 1 (s₁ i * f₁ i + s₂ i * f₂ i + s₃ i * f₃ i + s₄ i * f₄ i) :=
  congrArg (fun z : EReal => Ideal.div z (s₁ i * f₁ i + s₂ i * f₂ i + s₃ i * f₃ i + s₄ i * f₄ i)) Ideal.ofBits_one_f32

theorem max_at (a b c d : FVec Ideal S256x1 .f32) (i : S256x1.Idx) :
    maximumf (maximumf a b) (maximumf c d) i = (max (max (a i) (b i)) (max (c i) (d i)) : EReal) := rfl

/-- Where the product is finite every device's result is the softmax of its rows. -/
theorem outAt_at (l : S256x16384.Idx → ℝ) (hL : ∀ i, logits m i = ((l i : ℝ) : EReal)) (c : Dev nD) (r : Fin 256) (j : Fin 16384) :
    outAt m c (ix2 r j) = ((Real.exp (l (ix2 r j)) / ∑ k : Fin 16384, Real.exp (l (ix2 r k)) : ℝ) : EReal) := by
  have hl (b : Dev nD) (k : Fin 4096) : lblk m b (ix2 r k) = ((l (ix2 r (col b k)) : ℝ) : EReal) := (lblk_at m b r k).trans (hL _)
  have hq (b : Dev nD) : ∃ q : ℝ, bmax m b (ix2 r (0 : Fin 1)) = (q : EReal) := by
    obtain ⟨q, h⟩ := Cert.Softmax.fold_max_real (n := 4096) (by decide) fun k => l (ix2 r (col b k))
    refine ⟨q, ?_⟩
    rw [← h]
    refine (pay5_at (lblk m b) r).trans ?_
    simp only [hl]
  choose q hq using hq
  have he (b : Dev nD) (k : Fin 4096) : bexp m b (ix2 r k) = Ideal.exp (((l (ix2 r (col b k)) : ℝ) : EReal) - ((q b : ℝ) : EReal)) := by
    refine (pay6_at (lblk m b) r k).trans ?_
    rw [hl]
    exact congrArg (fun z : EReal => Ideal.exp (((l (ix2 r (col b k)) : ℝ) : EReal) - z)) (hq b)
  have hs (b : Dev nD) : bsum m b (ix2 r (0 : Fin 1)) = ∑ k : Fin 4096, Ideal.exp (((l (ix2 r (col b k)) : ℝ) : EReal) - ((q b : ℝ) : EReal)) :=
    (pay7_at (lblk m b) r).trans (Finset.sum_congr rfl fun k _ => he b k)
  have hM : ∃ M : ℝ, gmax m c (ix2 r (0 : Fin 1)) = (M : EReal) := by
    refine ⟨max (max (q c) (q (prv c))) (max (q (nxt c)) (q (opp c))), ?_⟩
    rw [gmax_eq, max_at]
    rw [hq, hq, hq, hq, coe_max, coe_max, coe_max]
  obtain ⟨M, hM⟩ := hM
  have hf (b : Dev nD) : fac m c b (ix2 r (0 : Fin 1)) = Ideal.exp (((q b : ℝ) : EReal) - (M : EReal)) :=
    (exp_sub_at (bmax m b) (gmax m c) _).trans (by rw [hq, hM])
  have hj : col (blkOf (ix2 r j)) ⟨j.val % 4096, Nat.mod_lt _ (by decide)⟩ = j := Fin.ext (show 4096 * (j.val / 4096) + j.val % 4096 = j.val by omega)
  have hi : inBlk (ix2 r j) = ix2 r (⟨j.val % 4096, Nat.mod_lt _ (by decide)⟩ : Fin 4096) := by
    funext a
    match a with
    | ⟨0, _⟩ => rfl
    | ⟨1, _⟩ => rfl
  show oblk m c (blkOf (ix2 r j)) (inBlk (ix2 r j)) = _
  rw [hi]
  refine (pay25_at (fac m c (blkOf (ix2 r j))) (rec m c) (bexp m (blkOf (ix2 r j))) r _).trans ?_
  rw [he, rec_eq, recip_at]
  refine (Cert.Softmax.blockwise (fun b k => l (ix2 r (col b k))) q M c (prv c) (nxt c) (opp c) (blkOf (ix2 r j)) _ (ring_sum c)
    (fun b => bsum m b (ix2 r (0 : Fin 1))) (fun b => fac m c b (ix2 r (0 : Fin 1))) hs hf).trans ?_
  rw [Cert.Softmax.sum_blocks (a := 4) (n := 4096) (N := 16384) rfl (fun k => Real.exp (l (ix2 r k))) col fun _ _ => rfl]
  simp only [hj]

end Cert.KernelIdealProof

end
-- ==== Proof.Value.Product.lean ====
/-
# The kernel's product

The product the devices assemble block by block is the product of the whole arrays, and it is finite where the arguments are.
-/
module

public import proofs.«01_k».proof.Proof.KernelIdeal.Run
public import proofs.«01_k».proof.Proof.Value.Kernel
public import Idealize.ShloMosaic.Lib.Layout

@[expose] public section

set_option maxRecDepth 16384

noncomputable section

namespace Cert.KernelIdealProof

open Cert.KernelIdeal Cert.KernelIdeal.Gen
open Idealize.ShloMosaic Idealize.ShloMosaic.ValueIdx

/-- A product of `x` with half a block of `W`, at an index. -/
theorem pay2_at (x : FVec Ideal S256x512 .f32) (w : FVec Ideal S512x2048 .f32) (r : Fin 256) (j : Fin 2048) :
    k0_pay2 (F := Ideal) x w (ix2 r j) = ∑ q : Fin 512, x (ix2 r q) * w (ix2 q j) := by
  unfold k0_pay2 k0_pay1
  simp only [shapeCast_self]
  refine (Ideal.matmul_plain_apply (φ₁ := .bf16) (φ₂ := .bf16) none x w (constant S256x2048 .f32 0x00000000#32) r j).trans ?_
  refine (congrArg (fun z : EReal => z + ∑ q : Fin 512, x (ix2 r q) * w (ix2 q j)) Ideal.ofBits_zero_f32).trans ?_
  exact zero_add _

theorem pay3_at (x : FVec Ideal S256x512 .f32) (w : FVec Ideal S512x2048 .f32) : k0_pay3 (F := Ideal) (k0_pay1 x) w = k0_pay2 (F := Ideal) x w := rfl

variable (m : (ℓ : Loc nD τ sig) → Buf (Elt Ideal) ℓ)

/-- Device `c`'s `x` and its block of `W`, as arrays of extended reals. -/
def xE (c : Dev nD) : S256x512.Idx → EReal := m ((c.tc : Thread nD τ).loc main_arg0)
def wE (c : Dev nD) : S512x4096.Idx → EReal := m ((c.tc : Thread nD τ).loc main_arg1)

/-- A column of a half-block, as a column of the block. -/
abbrev hcol (h : Fin 2) (j : Fin 2048) : Fin 4096 := ⟨2048 * h.val + j.val, by have h1 := h.isLt; have h2 := j.isLt; omega⟩

theorem wlo_at (b : Dev nD) (q : Fin 512) (j : Fin 2048) : wlo m b (ix2 q j) = wE m b (ix2 q (hcol 0 j)) := by
  refine Eq.trans ?_ (congrFun (wstg_eq m b) (ix2 q (hcol 0 j)))
  show wstg m b (loR.emb (ix2 q j)) = _
  refine congrArg (wstg m b) ?_
  funext a
  match a with
  | ⟨0, _⟩ => exact Fin.ext (show 0 + 1 * q.val = q.val by omega)
  | ⟨1, _⟩ => exact Fin.ext (show 0 + 1 * j.val = 2048 * 0 + j.val by omega)

theorem whi_at (b : Dev nD) (q : Fin 512) (j : Fin 2048) : whi m b (ix2 q j) = wE m b (ix2 q (hcol 1 j)) := by
  refine Eq.trans ?_ (congrFun (wstg_eq m b) (ix2 q (hcol 1 j)))
  show wstg m b (hiR.emb (ix2 q j)) = _
  refine congrArg (wstg m b) ?_
  funext a
  match a with
  | ⟨0, _⟩ => exact Fin.ext (show 0 + 1 * q.val = q.val by omega)
  | ⟨1, _⟩ => exact Fin.ext (show 2048 + 1 * j.val = 2048 * 1 + j.val by omega)

theorem half_at (b : Dev nD) (h : Fin 2) (r : Fin 256) (j : Fin 2048) :
    half m b h (ix2 r j) = ∑ q : Fin 512, xE m b (ix2 r q) * wE m b (ix2 q (hcol h j)) := by
  fin_cases h
  · refine (congrFun (half_zero m b) (ix2 r j)).trans ((pay2_at (xstg m b) (wlo m b) r j).trans ?_)
    exact Finset.sum_congr rfl fun q _ => congrArg₂ (fun y z : EReal => y * z) (congrFun (xstg_eq m b) (ix2 r q)) (wlo_at m b q j)
  · refine (congrFun ((half_one m b).trans (pay3_at (xstg m b) (whi m b))) (ix2 r j)).trans ((pay2_at (xstg m b) (whi m b) r j).trans ?_)
    exact Finset.sum_congr rfl fun q _ => congrArg₂ (fun y z : EReal => y * z) (congrFun (xstg_eq m b) (ix2 r q)) (whi_at m b q j)

/-- The block of a column, and the column within the block. -/
abbrev cblk (j : Fin 16384) : Dev nD := ⟨j.val / 4096, by have h := j.isLt; show _ < 4; omega⟩
abbrev ccol (j : Fin 16384) : Fin 4096 := ⟨j.val % 4096, Nat.mod_lt _ (by decide)⟩

/-- The product at an index, from the arguments of the device that computed it. -/
theorem logits_at (r : Fin 256) (j : Fin 16384) :
    logits m (ix2 r j) = ∑ q : Fin 512, xE m (cblk j) (ix2 r q) * wE m (cblk j) (ix2 q (ccol j)) := by
  have hi : inHalf (ix2 r j) = ix2 r (⟨j.val % 2048, Nat.mod_lt _ (by decide)⟩ : Fin 2048) := by
    funext a
    match a with
    | ⟨0, _⟩ => rfl
    | ⟨1, _⟩ => rfl
  have hc : hcol (halfOf (ix2 r j)) ⟨j.val % 2048, Nat.mod_lt _ (by decide)⟩ = ccol j :=
    Fin.ext (show 2048 * (j.val % 4096 / 2048) + j.val % 2048 = j.val % 4096 by omega)
  show half m (cblk j) (halfOf (ix2 r j)) (inHalf (ix2 r j)) = _
  rw [hi, half_at, hc]

/-- Where every device's arguments are finite, so is the product. -/
theorem logits_finite (hx : ∀ (c : Dev nD) i, ∃ a : ℝ, xE m c i = (a : EReal)) (hw : ∀ (c : Dev nD) i, ∃ a : ℝ, wE m c i = (a : EReal)) (i : S256x16384.Idx) :
    ∃ l : ℝ, logits m i = (l : EReal) := by
  have hi : i = ix2 (i 0 : Fin 256) (i 1 : Fin 16384) := eq_ix2 i
  choose x hx using hx
  choose w hw using hw
  refine ⟨∑ q : Fin 512, x (cblk (i 1)) (ix2 (i 0 : Fin 256) q) * w (cblk (i 1)) (ix2 q (ccol (i 1))), ?_⟩
  refine (congrArg (logits m) hi).trans ((logits_at m (i 0 : Fin 256) (i 1 : Fin 16384)).trans ?_)
  simp only [hx, hw, ← EReal.coe_mul]
  exact Cert.Softmax.coe_sum _ _

/-- Where every device holds the whole of `x` and its block of columns of `W`, the product is that of `x` and `W`. -/
theorem logits_whole (x : S256x512.Idx → EReal) (w : (⟨2, ![512, 16384]⟩ : Shape).Idx → EReal)
    (h : ∀ c : Dev nD, xE m c = x ∧ wE m c = Layout.block ⟨2, ![512, 4096]⟩ ⟨2, ![512, 16384]⟩ 1 4 c w) (r : Fin 256) (j : Fin 16384) :
    logits m (ix2 r j) = (∑ q : Fin 512, x (ix2 r q) * w (ix2 q j) : EReal) := by
  have e : ∑ q : Fin 512, xE m (cblk j) (ix2 r q) * wE m (cblk j) (ix2 q (ccol j)) = ∑ q : Fin 512, x (ix2 r q) * w (ix2 q j) := by
    refine Finset.sum_congr rfl fun q _ => congrArg₂ (fun y z : EReal => y * z) (congrFun (h (cblk j)).1 _) ((congrFun (h (cblk j)).2 _).trans ?_)
    refine congrArg w ?_
    funext a
    match a with
    | ⟨0, _⟩ => rfl
    | ⟨1, _⟩ => exact Fin.ext (show j.val / 4096 * 4096 + j.val % 4096 = j.val by omega)
  exact (logits_at m r j).trans e

end Cert.KernelIdealProof

end
-- ==== Proof.Value.Finite.lean ====
/-
# The precondition

Arguments that pass the test for finiteness are real numbers at every index.
-/
module

public import proofs.«01_k».proof.Proof.Gen.Pre_finite_KernelIdeal
public import Idealize.ShloMosaic.PureOps.Ideal.Laws
public import Idealize.ShloMosaic.Lib.ReduceAll
public import Idealize.ShloMosaic.Lib.Pipeline.Value

@[expose] public section

set_option maxRecDepth 16384

noncomputable section

namespace Cert.FiniteValue

open Cert.Pre_finite_KernelIdeal Cert.Pre_finite_KernelIdeal.Gen Idealize.ShloMosaic

theorem posInf : Ideal.ofBits .f32 0x7F800000#32 = (⊤ : EReal) := by simp [Ideal.ofBits, Ideal.ieee]

/-- An extended real whose absolute value is below the greatest is a real. -/
theorem real_of_abs_lt (a : EReal) (h : max a (-a) < ⊤) : ∃ r : ℝ, a = (r : EReal) := by
  rw [max_lt_iff] at h
  refine ⟨a.toReal, (EReal.coe_toReal h.1.ne ?_).symm⟩
  rintro rfl
  exact absurd h.2 (by simp)

/-- One entry's test. -/
theorem real_of_test (a b : EReal) (hb : b = ⊤) (h : Ideal.cmp .olt (max a (-a)) b = 1#1) : ∃ r : ℝ, a = (r : EReal) := by
  subst hb
  refine real_of_abs_lt a ?_
  by_contra hc
  have : Ideal.cmp .olt (max a (-a)) ⊤ = BitVec.ofBool (decide (max a (-a) < ⊤)) := rfl
  rw [this, decide_eq_false hc] at h
  exact absurd h (by decide)

/-- Passing the test makes every entry of both arguments a real. -/
theorem real_of_finite (x : FVec Ideal S256x512 .f32) (w : FVec Ideal S512x4096 .f32) (h : fn (F := Ideal) x w = fun _ => 1#1) :
    (∀ i, ∃ a : ℝ, x i = (a : EReal)) ∧ ∀ i, ∃ a : ℝ, w i = (a : EReal) := by
  have : Subsingleton S_.Idx := ⟨fun a b => funext fun i => i.elim0⟩
  have h0 := IntOp.andi_eq_one.1 (congrFun h (fun i => i.elim0))
  refine ⟨fun i => ?_, fun i => ?_⟩
  · exact real_of_test _ _ posInf (Host.reduce_andi_all _ _ _ _ _ h0.1 i)
  · exact real_of_test _ _ posInf (Host.reduce_andi_all _ _ _ _ _ h0.2 i)

end Cert.FiniteValue

end
-- ==== Proof.lean ====
/-
# The claims

Every program ends with its arguments as they were and every counter at zero; and where the arguments are finite the kernel
on four devices ends with the reference's result on each. The modules imported below prove the parts; here they are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.KernelIdeal.Run
public import proofs.«01_k».proof.Proof.Kernel.Run
public import proofs.«01_k».proof.Proof.Value.Reference
public import proofs.«01_k».proof.Proof.Value.Kernel
public import proofs.«01_k».proof.Proof.Value.Product
public import proofs.«01_k».proof.Proof.Value.Finite
public import Idealize.ShloMosaic.Lib.Quiescent
public import Idealize.ShloMosaic.Lib.StableHlo.RunHlo
public import Idealize.ShloMosaic.Adequacy
public import Idealize.ShloMosaic.Init

@[expose] public section

set_option maxRecDepth 16384

noncomputable section

namespace Cert.Proof

open Idealize.ShloMosaic Idealize.ShloMosaic.ValueIdx Idealize.SL.Sem

/-- The kernel at machine numbers, whatever its arguments. -/
theorem frame_kernel : quiescent_Kernel := fun m g _ =>
  θ_run_mono (Cert.KernelProof.run_named m g) fun _ h => ⟨fun c => ⟨(h.1 c).2.1, (h.1 c).2.2⟩, h.2⟩

/-- The kernel over the extended reals, whatever its arguments. -/
theorem frame_ideal : quiescent_KernelIdeal := fun m g _ =>
  θ_run_mono (Cert.KernelIdealProof.run_named m g) fun _ h => ⟨fun c => ⟨(h.1 c).2.1, (h.1 c).2.2⟩, h.2⟩

/-- The same, where the arguments are finite. -/
theorem frame_ideal_finite : quiescent_KernelIdeal_pre_finite_KernelIdeal := fun m g _ => frame_ideal m g trivial

/-- The reference over the extended reals, whatever its arguments. -/
theorem frame_reference : quiescent_ReferenceIdeal := fun m g _ =>
  θ_run_mono (Cert.ReferenceIdeal.Value.run m g) fun r h => ⟨fun c => ⟨(h c).2.1, (h c).2.2⟩, sem_eq_zero_of_no_sems (by decide) r.2⟩

/-- The same, where the arguments are finite. -/
theorem frame_reference_finite : quiescent_ReferenceIdeal_pre_finite_ReferenceIdeal := fun m g _ => frame_reference m g trivial

/-- Where the arguments are finite, what a device of the kernel writes is what the reference computes of the whole arrays. -/
theorem same_result (m : (ℓ : Loc Cert.KernelIdeal.nD Cert.KernelIdeal.τ Cert.KernelIdeal.sig) → Buf (Elt Ideal) ℓ)
    (hm : Pre_KernelIdeal_finite_KernelIdeal m) (x : FVec Ideal ⟨2, ![256, 512]⟩ .f32) (w : FVec Ideal ⟨2, ![512, 16384]⟩ .f32)
    (h : ∀ c : Dev Cert.KernelIdeal.nD, Cert.KernelIdealProof.xE m c = x
      ∧ Cert.KernelIdealProof.wE m c = Layout.block ⟨2, ![512, 4096]⟩ ⟨2, ![512, 16384]⟩ 1 4 c w) (c : Dev Cert.KernelIdeal.nD) :
    (Cert.KernelIdealProof.outAt m c : (⟨2, ![256, 16384]⟩ : Shape).Idx → EReal) = Cert.RefValue.softmaxOf (Cert.RefValue.product x w) := by
  have hl := Cert.KernelIdealProof.logits_finite m (fun c => (Cert.FiniteValue.real_of_finite _ _ (hm c)).1)
    (fun c => (Cert.FiniteValue.real_of_finite _ _ (hm c)).2)
  choose l hl using hl
  have hp (r : Fin 256) (j : Fin 16384) : Cert.RefValue.product x w (ix2 r j) = ((l (ix2 r j) : ℝ) : EReal) :=
    (Cert.RefValue.product_at x w r j).trans ((Cert.KernelIdealProof.logits_whole m x w h r j).symm.trans (hl (ix2 r j)))
  have hp' (i : (⟨2, ![256, 16384]⟩ : Shape).Idx) : Cert.RefValue.product x w i = ((l i : ℝ) : EReal) := by
    rw [eq_ix2 i]
    exact hp (i 0) (i 1)
  funext i
  rw [eq_ix2 i]
  exact (Cert.KernelIdealProof.outAt_at m l hl c (i 0) (i 1)).trans
    (Cert.RefValue.softmaxOf_at (Cert.RefValue.product x w) l hp' (i 0) (i 1)).symm

/-- From finite arguments the kernel ends with the reference's result on every device. -/
theorem value : algebraic_KernelIdeal_ReferenceIdeal_pre_finite_KernelIdeal := fun m g m' g' hm h =>
  ⟨Cert.RefValue.softmaxOf (Cert.RefValue.product
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))),
    θ_run_mono (Cert.KernelIdealProof.run_named m g) fun _ e c =>
      ⟨(e.1 c).1.trans (same_result m hm _ _ h c), (e.1 c).2.1, (e.1 c).2.2⟩,
    θ_run_mono (Cert.ReferenceIdeal.Value.run m' g') fun _ e => ⟨(e 0).1, (e 0).2.1, (e 0).2.2⟩⟩

/-- Everything claimed. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_finite, frame_reference, frame_reference_finite,
    trivial, value⟩

end Cert.Proof

end
